-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![32, 32, 32]⟩ ⟨3, ![64, 128, 128]⟩ (Layout.meshBlock [2, 4, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![32, 32, 32]⟩ ⟨3, ![64, 128, 128]⟩ (Layout.meshBlock [2, 4, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x32x32 : Shape := ⟨3, ![32, 32, 32]⟩
abbrev S2x32x32 : Shape := ⟨3, ![2, 32, 32]⟩
abbrev S6 : Shape := ⟨1, ![6]⟩
abbrev S_ : Shape := ⟨0, ![]⟩
abbrev S1 : Shape := ⟨1, ![1]⟩
abbrev S1x32x32 : Shape := ⟨3, ![1, 32, 32]⟩
abbrev S32x1x32 : Shape := ⟨3, ![32, 1, 32]⟩
abbrev S32x32x1 : Shape := ⟨3, ![32, 32, 1]⟩
abbrev S32x32 : Shape := ⟨2, ![32, 32]⟩
abbrev S31x32x32 : Shape := ⟨3, ![31, 32, 32]⟩
abbrev S32x31x32 : Shape := ⟨3, ![32, 31, 32]⟩
abbrev S32x32x31 : Shape := ⟨3, ![32, 32, 31]⟩
abbrev S32x2x32 : Shape := ⟨3, ![32, 2, 32]⟩

abbrev nBuf : Space → Nat
  | .hbm => 2
  | .vmem => 8
  | .smem => 0
  | _ => 0

abbrev bufTy : (tb : Table) → Fin (tcTables nBuf tb) → BufTy
  | .hbm, ⟨0, _⟩ => ⟨S32x32x32, .bf16⟩
  | .hbm, ⟨1, _⟩ => ⟨S32x32x32, .bf16⟩
  | .local _ .vmem, ⟨0, _⟩ => ⟨S32x32x32, .bf16⟩
  | .local _ .vmem, ⟨1, _⟩ => ⟨S32x32x32, .bf16⟩
  | .local _ .vmem, ⟨2, _⟩ => ⟨S2x32x32, .bf16⟩
  | .local _ .vmem, ⟨3, _⟩ => ⟨S2x32x32, .bf16⟩
  | .local _ .vmem, ⟨4, _⟩ => ⟨S2x32x32, .bf16⟩
  | .local _ .vmem, ⟨5, _⟩ => ⟨S2x32x32, .bf16⟩
  | .local _ .vmem, ⟨6, _⟩ => ⟨S2x32x32, .bf16⟩
  | .local _ .vmem, ⟨7, _⟩ => ⟨S2x32x32, .bf16⟩
  | _, _ => ⟨S32x32x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 7 14 bufScoped semScoped dmaSemScoped tileCredit tileCredit_eq_zero tileCredit_pos).withBarriers [(0, 6)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 6

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v22 : BitVec 32 := Scalar.extui v9
  let c0_i32_14 : BitVec 32 := 0#32
  let v23 : BitVec 1 := Scalar.cmpi .ne v22 c0_i32_14
  v23

def k0_dev1 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 32 := Scalar.subi v2 c1_i32_2
  let c16_i32_113 : BitVec 32 := 16#32
  let v150 : BitVec 32 := Scalar.muli v10 c16_i32_113
  let v151 : BitVec 32 := Scalar.addi c0_i32_114 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_115 : BitVec 32 := 4#32
  let v152 : BitVec 32 := Scalar.muli v5 c4_i32_115
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v154 : BitVec 32 := Scalar.muli v8 c1_i32_116
  let v155 : BitVec 32 := Scalar.addi v153 v154
  v155.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_3 : BitVec 32 := 1#32
  let v11 : BitVec 1 := Scalar.cmpi .slt v2 c1_i32_3
  let v24 : BitVec 32 := Scalar.extui v11
  let c0_i32_15 : BitVec 32 := 0#32
  let v25 : BitVec 1 := Scalar.cmpi .ne v24 c0_i32_15
  v25

def k0_dev2 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_4 : BitVec 32 := 1#32
  let v12 : BitVec 32 := Scalar.addi v2 c1_i32_4
  let c16_i32_113 : BitVec 32 := 16#32
  let v150 : BitVec 32 := Scalar.muli v12 c16_i32_113
  let v151 : BitVec 32 := Scalar.addi c0_i32_114 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_115 : BitVec 32 := 4#32
  let v152 : BitVec 32 := Scalar.muli v5 c4_i32_115
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v154 : BitVec 32 := Scalar.muli v8 c1_i32_116
  let v155 : BitVec 32 := Scalar.addi v153 v154
  v155.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_5 : BitVec 32 := 0#32
  let v13 : BitVec 1 := Scalar.cmpi .sgt v5 c0_i32_5
  let v26 : BitVec 32 := Scalar.extui v13
  let c0_i32_16 : BitVec 32 := 0#32
  let v27 : BitVec 1 := Scalar.cmpi .ne v26 c0_i32_16
  v27

def k0_dev3 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_113 : BitVec 32 := 16#32
  let v150 : BitVec 32 := Scalar.muli v2 c16_i32_113
  let v151 : BitVec 32 := Scalar.addi c0_i32_114 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.subi v5 c1_i32_6
  let c4_i32_115 : BitVec 32 := 4#32
  let v152 : BitVec 32 := Scalar.muli v14 c4_i32_115
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v154 : BitVec 32 := Scalar.muli v8 c1_i32_116
  let v155 : BitVec 32 := Scalar.addi v153 v154
  v155.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v15 : BitVec 1 := Scalar.cmpi .slt v5 c3_i32
  let v28 : BitVec 32 := Scalar.extui v15
  let c0_i32_17 : BitVec 32 := 0#32
  let v29 : BitVec 1 := Scalar.cmpi .ne v28 c0_i32_17
  v29

def k0_dev4 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_113 : BitVec 32 := 16#32
  let v150 : BitVec 32 := Scalar.muli v2 c16_i32_113
  let v151 : BitVec 32 := Scalar.addi c0_i32_114 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 32 := Scalar.addi v5 c1_i32_7
  let c4_i32_115 : BitVec 32 := 4#32
  let v152 : BitVec 32 := Scalar.muli v16 c4_i32_115
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v154 : BitVec 32 := Scalar.muli v8 c1_i32_116
  let v155 : BitVec 32 := Scalar.addi v153 v154
  v155.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v17 : BitVec 1 := Scalar.cmpi .sgt v8 c0_i32_8
  let v30 : BitVec 32 := Scalar.extui v17
  let c0_i32_18 : BitVec 32 := 0#32
  let v31 : BitVec 1 := Scalar.cmpi .ne v30 c0_i32_18
  v31

def k0_dev5 (d0 : Dev nD) : Nat :=
  let c0_i32_113 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_112 : BitVec 32 := 16#32
  let v150 : BitVec 32 := Scalar.muli v2 c16_i32_112
  let v151 : BitVec 32 := Scalar.addi c0_i32_113 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_114 : BitVec 32 := 4#32
  let v152 : BitVec 32 := Scalar.muli v5 c4_i32_114
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v18 : BitVec 32 := Scalar.subi v8 c1_i32_9
  let c1_i32_115 : BitVec 32 := 1#32
  let v154 : BitVec 32 := Scalar.muli v18 c1_i32_115
  let v155 : BitVec 32 := Scalar.addi v153 v154
  v155.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_10 : BitVec 32 := 3#32
  let v19 : BitVec 1 := Scalar.cmpi .slt v8 c3_i32_10
  let v32 : BitVec 32 := Scalar.extui v19
  let c0_i32_19 : BitVec 32 := 0#32
  let v33 : BitVec 1 := Scalar.cmpi .ne v32 c0_i32_19
  v33

def k0_dev6 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_113 : BitVec 32 := 16#32
  let v150 : BitVec 32 := Scalar.muli v2 c16_i32_113
  let v151 : BitVec 32 := Scalar.addi c0_i32_114 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_115 : BitVec 32 := 4#32
  let v152 : BitVec 32 := Scalar.muli v5 c4_i32_115
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_116 : BitVec 32 := 1#32
  let v154 : BitVec 32 := Scalar.muli v20 c1_i32_116
  let v155 : BitVec 32 := Scalar.addi v153 v154
  v155.toNat
def k0_cond7 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v64 : BitVec 32 := Scalar.extui v9
  let c0_i32_41 : BitVec 32 := 0#32
  let v65 : BitVec 1 := Scalar.cmpi .ne v64 c0_i32_41
  v65

def k0_dev7 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 32 := Scalar.subi v2 c1_i32_2
  let c16_i32_116 : BitVec 32 := 16#32
  let v150 : BitVec 32 := Scalar.muli v10 c16_i32_116
  let v151 : BitVec 32 := Scalar.addi c0_i32_117 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_118 : BitVec 32 := 4#32
  let v152 : BitVec 32 := Scalar.muli v5 c4_i32_118
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v154 : BitVec 32 := Scalar.muli v8 c1_i32_119
  let v155 : BitVec 32 := Scalar.addi v153 v154
  v155.toNat
def k0_cond8 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_3 : BitVec 32 := 1#32
  let v11 : BitVec 1 := Scalar.cmpi .slt v2 c1_i32_3
  let v66 : BitVec 32 := Scalar.extui v11
  let c0_i32_44 : BitVec 32 := 0#32
  let v67 : BitVec 1 := Scalar.cmpi .ne v66 c0_i32_44
  v67

def k0_dev8 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_4 : BitVec 32 := 1#32
  let v12 : BitVec 32 := Scalar.addi v2 c1_i32_4
  let c16_i32_116 : BitVec 32 := 16#32
  let v150 : BitVec 32 := Scalar.muli v12 c16_i32_116
  let v151 : BitVec 32 := Scalar.addi c0_i32_117 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_118 : BitVec 32 := 4#32
  let v152 : BitVec 32 := Scalar.muli v5 c4_i32_118
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v154 : BitVec 32 := Scalar.muli v8 c1_i32_119
  let v155 : BitVec 32 := Scalar.addi v153 v154
  v155.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_5 : BitVec 32 := 0#32
  let v13 : BitVec 1 := Scalar.cmpi .sgt v5 c0_i32_5
  let v68 : BitVec 32 := Scalar.extui v13
  let c0_i32_47 : BitVec 32 := 0#32
  let v69 : BitVec 1 := Scalar.cmpi .ne v68 c0_i32_47
  v69

def k0_dev9 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v150 : BitVec 32 := Scalar.muli v2 c16_i32_116
  let v151 : BitVec 32 := Scalar.addi c0_i32_117 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.subi v5 c1_i32_6
  let c4_i32_118 : BitVec 32 := 4#32
  let v152 : BitVec 32 := Scalar.muli v14 c4_i32_118
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v154 : BitVec 32 := Scalar.muli v8 c1_i32_119
  let v155 : BitVec 32 := Scalar.addi v153 v154
  v155.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v15 : BitVec 1 := Scalar.cmpi .slt v5 c3_i32
  let v70 : BitVec 32 := Scalar.extui v15
  let c0_i32_50 : BitVec 32 := 0#32
  let v71 : BitVec 1 := Scalar.cmpi .ne v70 c0_i32_50
  v71

def k0_dev10 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v150 : BitVec 32 := Scalar.muli v2 c16_i32_116
  let v151 : BitVec 32 := Scalar.addi c0_i32_117 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 32 := Scalar.addi v5 c1_i32_7
  let c4_i32_118 : BitVec 32 := 4#32
  let v152 : BitVec 32 := Scalar.muli v16 c4_i32_118
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v154 : BitVec 32 := Scalar.muli v8 c1_i32_119
  let v155 : BitVec 32 := Scalar.addi v153 v154
  v155.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v17 : BitVec 1 := Scalar.cmpi .sgt v8 c0_i32_8
  let v72 : BitVec 32 := Scalar.extui v17
  let c0_i32_53 : BitVec 32 := 0#32
  let v73 : BitVec 1 := Scalar.cmpi .ne v72 c0_i32_53
  v73

def k0_dev11 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v150 : BitVec 32 := Scalar.muli v2 c16_i32_115
  let v151 : BitVec 32 := Scalar.addi c0_i32_116 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v152 : BitVec 32 := Scalar.muli v5 c4_i32_117
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v18 : BitVec 32 := Scalar.subi v8 c1_i32_9
  let c1_i32_118 : BitVec 32 := 1#32
  let v154 : BitVec 32 := Scalar.muli v18 c1_i32_118
  let v155 : BitVec 32 := Scalar.addi v153 v154
  v155.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_10 : BitVec 32 := 3#32
  let v19 : BitVec 1 := Scalar.cmpi .slt v8 c3_i32_10
  let v74 : BitVec 32 := Scalar.extui v19
  let c0_i32_56 : BitVec 32 := 0#32
  let v75 : BitVec 1 := Scalar.cmpi .ne v74 c0_i32_56
  v75

def k0_dev12 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v150 : BitVec 32 := Scalar.muli v2 c16_i32_115
  let v151 : BitVec 32 := Scalar.addi c0_i32_116 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v152 : BitVec 32 := Scalar.muli v5 c4_i32_117
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_118 : BitVec 32 := 1#32
  let v154 : BitVec 32 := Scalar.muli v20 c1_i32_118
  let v155 : BitVec 32 := Scalar.addi v153 v154
  v155.toNat
abbrev stage0_0 : Fin 1 → Memref sig .tc .vmem S32x32x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x128x128 : Shape := ⟨3, ![64, 128, 128]⟩
abbrev S62x126x126 : Shape := ⟨3, ![62, 126, 126]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x128x128, .bf16⟩
  | .hbm, ⟨1, _⟩ => ⟨S64x128x128, .f32⟩
  | .hbm, ⟨2, _⟩ => ⟨S62x126x126, .f32⟩
  | .hbm, ⟨3, _⟩ => ⟨S62x126x126, .f32⟩
  | .hbm, ⟨4, _⟩ => ⟨S62x126x126, .f32⟩
  | .hbm, ⟨5, _⟩ => ⟨S62x126x126, .f32⟩
  | .hbm, ⟨6, _⟩ => ⟨S62x126x126, .f32⟩
  | .hbm, ⟨7, _⟩ => ⟨S62x126x126, .f32⟩
  | .hbm, ⟨8, _⟩ => ⟨S62x126x126, .f32⟩
  | .hbm, ⟨9, _⟩ => ⟨S62x126x126, .f32⟩
  | .hbm, ⟨10, _⟩ => ⟨S62x126x126, .f32⟩
  | .hbm, ⟨11, _⟩ => ⟨S62x126x126, .f32⟩
  | .hbm, ⟨12, _⟩ => ⟨S62x126x126, .f32⟩
  | .hbm, ⟨13, _⟩ => ⟨S62x126x126, .f32⟩
  | .hbm, ⟨14, _⟩ => ⟨S_, .f32⟩
  | .hbm, ⟨15, _⟩ => ⟨S62x126x126, .f32⟩
  | .hbm, ⟨16, _⟩ => ⟨S62x126x126, .f32⟩
  | .hbm, ⟨17, _⟩ => ⟨S62x126x126, .f32⟩
  | .hbm, ⟨18, _⟩ => ⟨S_, .i32⟩
  | .hbm, ⟨19, _⟩ => ⟨S_, .f32⟩
  | .hbm, ⟨20, _⟩ => ⟨S64x128x128, .f32⟩
  | .hbm, ⟨21, _⟩ => ⟨S64x128x128, .bf16⟩
  | _, _ => ⟨S64x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Proof.Protocol.lean ====
/-
# The halo exchange: the mesh, the cells, what each landing hands over

Thirty-two devices form a 2 by 4 by 4 mesh. Device `c` has the coordinates `c / 16`, `c / 4 % 4` and `c % 4`. A
direction `d : Fin 6` is an axis (`d / 2`) and a side (`d % 2`: 0 towards the lower coordinate, 1 towards the higher).

Each device has one ready, one send and one receive semaphore per direction, and the barrier semaphore.

* Barrier: the device signals its own and waits for it. Nothing is handed over.
* `ready d` of `c` (only if `c` has a neighbour in direction `d`): signalled once by that neighbour, waited for by `c`
  before its copy in direction `d`. The signal hands `c` the neighbour's landing slot for the opposite direction, at any
  contents: the permission to write it.
* `recv d` of `c`: credited by the neighbour's copy, waited for by `c`. The landing hands `c` its own landing slot for
  direction `d`, holding the neighbour's face that looks towards `c`.
* `send d` of `c`: credited by `c`'s own copy, waited for by `c`. It hands back the send slot `d`, still holding `c`'s face.

Every device first signals in all directions, then waits for `ready` and copies direction by direction, then waits for
all its receives and sends. The waits are ordered: barrier below ready, ready below receive.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Pointwise
public import Idealize.ShloMosaic.Lib.ValueLayout
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The axis of a direction. -/
def axis : Fin 6 → Fin 3 := ![0, 0, 1, 1, 2, 2]
/-- The side of a direction: 0 towards the lower coordinate, 1 towards the higher. -/
def side : Fin 6 → ℕ := ![0, 1, 0, 1, 0, 1]
/-- The opposite direction. -/
def opp : Fin 6 → Fin 6 := ![1, 0, 3, 2, 5, 4]
/-- The position of the block's outermost plane in a direction. -/
def edge : Fin 6 → ℕ := ![0, 31, 0, 31, 0, 31]
/-- A device's coordinate on an axis. -/
def coord (a : Fin 3) (c : Dev nD) : ℕ := (![c.val / 16, c.val / 4 % 4, c.val % 4] : Fin 3 → ℕ) a
/-- The mesh's extent on an axis. -/
def extent : Fin 3 → ℕ := ![2, 4, 4]
/-- How far apart in the numbering two neighbours on an axis are. -/
def stride : Fin 3 → ℕ := ![16, 4, 1]

/-- Device `c` has a neighbour in direction `d`. -/
def Has (d : Fin 6) (c : Dev nD) : Prop :=
  if side d = 0 then 0 < coord (axis d) c else coord (axis d) c + 1 < extent (axis d)
instance (d : Fin 6) (c : Dev nD) : Decidable (Has d c) := by unfold Has; infer_instance

/-- The neighbour's number; a device without one has its own. -/
def nbrN (d : Fin 6) (c : Dev nD) : ℕ :=
  if Has d c then (if side d = 0 then c.val - stride (axis d) else c.val + stride (axis d)) else c.val
theorem nbrN_lt (d : Fin 6) (c : Dev nD) : nbrN d c < nD := by revert d c; decide +kernel
/-- The neighbour of `c` in direction `d`; `c` itself if it has none. -/
def nbr (d : Fin 6) (c : Dev nD) : Dev nD := ⟨nbrN d c, nbrN_lt d c⟩

theorem has_nbr {d : Fin 6} {c : Dev nD} (h : Has d c) : Has (opp d) (nbr d c) := by revert d c; decide +kernel
theorem nbr_nbr {d : Fin 6} {c : Dev nD} (h : Has d c) : nbr (opp d) (nbr d c) = c := by revert d c; decide +kernel
theorem opp_opp (d : Fin 6) : opp (opp d) = d := by revert d; decide

/-- The other end of a link: the neighbour in direction `d` with the opposite direction. Without a neighbour the link is the
    end itself. -/
def peer (x : Dev nD × Fin 6) : Dev nD × Fin 6 := if Has x.2 x.1 then (nbr x.2 x.1, opp x.2) else x
theorem peer_has {d : Fin 6} {c : Dev nD} (h : Has d c) : peer (c, d) = (nbr d c, opp d) := if_pos h
theorem peer_peer (x : Dev nD × Fin 6) : peer (peer x) = x := by
  obtain ⟨c, d⟩ := x
  by_cases h : Has d c
  · rw [peer_has h, peer_has (has_nbr h), nbr_nbr h, opp_opp]
  · have e : peer (c, d) = (c, d) := if_neg h
    rw [e, e]
/-- The links as a pairing of the ends. -/
def link : Dev nD × Fin 6 ≃ Dev nD × Fin 6 := ⟨peer, peer, peer_peer, peer_peer⟩

/-! ## The semaphores and cells -/

/-- The ready semaphore of a direction. -/
def readyS (d : Fin 6) : Sem sig := ⟨d.val, by have := d.isLt; show d.val < 7; omega⟩
/-- The send semaphore of a direction. -/
def sendS (d : Fin 6) : DmaSem sig := ⟨2 + d.val, by have := d.isLt; show 2 + d.val < 14; omega⟩
/-- The receive semaphore of a direction. -/
def recvS (d : Fin 6) : DmaSem sig := ⟨8 + d.val, by have := d.isLt; show 8 + d.val < 14; omega⟩
/-- The barrier semaphore. -/
abbrev barS : Sem sig := (SemArray.scalar (sig.barrier 0 rfl) : Sems sig S_).sem

/-- The scratch semaphores: kind 0 ready, 1 send, 2 receive. -/
abbrev Own : Type := Fin 3 × Fin 6
/-- With the barrier semaphore, every semaphore the protocol uses. -/
abbrev Kx : Type := Option Own

/-- A scratch semaphore by its kind and direction. -/
def osem : Own → SemLoc sig
  | (0, d) => .reg (readyS d)
  | (1, d) => .dma (sendS d)
  | (2, d) => .dma (recvS d)
/-- A protocol semaphore by its index. -/
def csem : Kx → SemLoc sig
  | none => .reg barS
  | some k => osem k
/-- The index of a semaphore, of those the protocol uses. -/
def ixOf : SemLoc sig → Option Kx
  | .reg s => if h : s.val < 6 then some (some (0, ⟨s.val, h⟩)) else some none
  | .dma s =>
    if h : 2 ≤ s.val ∧ s.val < 8 then some (some (1, ⟨s.val - 2, by omega⟩))
    else if h : 8 ≤ s.val ∧ s.val < 14 then some (some (2, ⟨s.val - 8, by omega⟩))
    else none
theorem ixOf_csem (k : Kx) : ixOf (csem k) = some k := by revert k; decide
theorem csem_injective : Function.Injective csem := fun a b h => by
  have := congrArg ixOf h
  rw [ixOf_csem, ixOf_csem] at this
  exact Option.some.inj this

/-- The cell of device `c` with index `k`. -/
abbrev cellAt (c : Dev nD) (k : Kx) : GSem nD τ sig := ((c : Thread nD τ), csem k)
abbrev barCell (c : Dev nD) : GSem nD τ sig := cellAt c none
abbrev readyCell (c : Dev nD) (d : Fin 6) : GSem nD τ sig := cellAt c (some (0, d))
abbrev sendCell (c : Dev nD) (d : Fin 6) : GSem nD τ sig := cellAt c (some (1, d))
abbrev recvCell (c : Dev nD) (d : Fin 6) : GSem nD τ sig := cellAt c (some (2, d))

theorem cellAt_inj {c c' : Dev nD} {k k' : Kx} : cellAt c k = cellAt c' k' ↔ c = c' ∧ k = k' := by
  constructor
  · intro h
    exact ⟨Fin.ext (congrArg (fun g : GSem nD τ sig => g.1.1.val) h), csem_injective (congrArg Prod.snd h)⟩
  · rintro ⟨rfl, rfl⟩; rfl

/-! ## The send and landing slots -/

abbrev Blk : Type := S32x32x32.Idx → Elt F .bf16
abbrev Plane : Type := S32x32.Idx → Elt F .bf16

/-- The send buffer of an axis: its two slots are the axis's two sides. -/
def sBuf : Fin 3 → Memref sig .tc .vmem S2x32x32 .bf16
  | 0 => Memref.whole cc0_scratch0
  | 1 => Memref.whole cc0_scratch4
  | 2 => Memref.whole cc0_scratch5
/-- The landing buffer of an axis. -/
def hBuf : Fin 3 → Memref sig .tc .vmem S2x32x32 .bf16
  | 0 => Memref.whole cc0_scratch1
  | 1 => Memref.whole cc0_scratch2
  | 2 => Memref.whole cc0_scratch3

theorem slot_inb (d : Fin 6) : ∀ a, (![side d, 0, 0] : Fin 3 → ℕ) a + S1x32x32.size a ≤ S2x32x32.size a := by
  revert d; decide
/-- The part of a two-slot buffer that belongs to a direction. -/
abbrev slotRect (d : Fin 6) : Rect S2x32x32 := Rect.unit (s := S2x32x32) ![side d, 0, 0] S1x32x32.size (slot_inb d)
/-- A direction's slot of a two-slot buffer, as a plane. -/
abbrev slot (M : Memref sig .tc .vmem S2x32x32 .bf16) (d : Fin 6) : Memref sig .tc .vmem S32x32 .bf16 :=
  (M.slice (slotRect d) (fun _ => rfl)).squeeze S32x32 squeezes_S1x32x32_S32x32
/-- The send slot of a direction. -/
abbrev sM (d : Fin 6) : Memref sig .tc .vmem S32x32 .bf16 := slot (sBuf (axis d)) d
/-- The landing slot of a direction. -/
abbrev hM (d : Fin 6) : Memref sig .tc .vmem S32x32 .bf16 := slot (hBuf (axis d)) d

/-- The credit of one face. -/
abbrev N : ℕ := (hM 0).view.dmaCredit
theorem N_pos : 0 < N := View.dmaCredit_pos _ (by decide)
theorem credit_hM (d : Fin 6) : (hM d).view.dmaCredit = N := by fin_cases d <;> rfl
theorem credit_sM (d : Fin 6) : (sM d).view.dmaCredit = N := by fin_cases d <;> rfl

/-- Device `c` owns the elements of `M`, at some contents. -/
def anyIn (M : Memref sig .tc .vmem S32x32 .bf16) (c : Dev nD) : sProp 𝕄 :=
  iprop(∃ f : Buf (Elt F) (M.view.loc (c : Thread nD τ)), M.view.loc (c : Thread nD τ) ↦[M.view.set]{fullShare} f)
/-- Device `c` owns the elements of `M`, and they hold the plane `X`. -/
def holds (M : Memref sig .tc .vmem S32x32 .bf16) (c : Dev nD) (X : Plane (F := F)) : sProp 𝕄 :=
  iprop(∃ f : Buf (Elt F) (M.view.loc (c : Thread nD τ)), ⌜M.view.read (Elt F) f = X⌝ ∗ M.view.loc (c : Thread nD τ) ↦[M.view.set]{fullShare} f)

omit [FloatOps F] in
theorem holds_any (M : Memref sig .tc .vmem S32x32 .bf16) (c : Dev nD) (X : Plane (F := F)) : holds M c X ⊢ (anyIn M c : sProp 𝕄) := by
  unfold holds anyIn
  iintro ⟨%f, -, H⟩
  iexists f; iexact H

omit [FloatOps F] in
instance anyIn_storable (M : Memref sig .tc .vmem S32x32 .bf16) (c : Dev nD) : BI.Storable (upEmb : UEmb _ 𝕄) (anyIn (F := F) M c) := by
  unfold anyIn; infer_instance
omit [FloatOps F] in
instance holds_storable (M : Memref sig .tc .vmem S32x32 .bf16) (c : Dev nD) (X : Plane (F := F)) : BI.Storable (upEmb : UEmb _ 𝕄) (holds M c X) := by
  unfold holds; infer_instance

/-! ## Contents -/

/-- The block a device starts from: its part of `u`, as the kernel's input window holds it. -/
def xstg (c : Dev nD) : Blk (F := F) :=
  (win0_0.blk (0 : Fin 1)).view.read (Elt F) ((s₀ m ρ).mem ((c : Thread nD τ).loc main_arg0))

/-- The element of the outermost plane in direction `d` that stands at `j` in the plane. -/
def onPlane (d : Fin 6) (j : S32x32.Idx) : S32x32x32.Idx := match axis d with
  | 0 => ix3 ⟨edge d, by revert d; decide⟩ (j 0) (j 1)
  | 1 => ix3 (j 0) ⟨edge d, by revert d; decide⟩ (j 1)
  | 2 => ix3 (j 0) (j 1) ⟨edge d, by revert d; decide⟩
/-- An element's place in its plane across the axis of `d`. -/
def inPlane (d : Fin 6) (i : S32x32x32.Idx) : S32x32.Idx := match axis d with
  | 0 => ix2 (i 1) (i 2)
  | 1 => ix2 (i 0) (i 2)
  | 2 => ix2 (i 0) (i 1)
/-- The face of a block that looks in direction `d`. -/
def face (d : Fin 6) (v : Blk (F := F)) : Plane (F := F) := fun j => v (onPlane d j)
/-- What lands on `c` from direction `d`: the neighbour's face that looks towards `c`. -/
def landed (d : Fin 6) (c : Dev nD) : Plane (F := F) := face (opp d) (xstg m ρ (nbr d c))

/-! ## The schedule -/

/-- What one unit, or one landing, on a cell hands its owner. -/
def pay (c : Dev nD) : Kx → sProp 𝕄
  | some (0, d) => anyIn (hM (opp d)) (nbr d c)
  | some (1, d) => holds (sM d) c (face d (xstg m ρ c))
  | some (2, d) => holds (hM d) c (landed m ρ d c)
  | none => iprop(emp)
instance pay_storable (c : Dev nD) (k : Kx) : BI.Storable (upEmb : UEmb _ 𝕄) (pay m ρ c k) := by
  unfold pay; split <;> infer_instance

/-- The units of a cell's one duty. -/
def units : Kx → ℕ
  | some (0, _) => 1
  | some (1, _) => N
  | some (2, _) => N
  | none => 1
theorem units_pos (k : Kx) : 0 < units k := by
  unfold units; split <;> first | exact N_pos | exact Nat.one_pos

/-- A cell is used: the barrier always, the others where there is a neighbour. -/
def Live (c : Dev nD) : Kx → Prop
  | none => True
  | some (_, d) => Has d c
instance (c : Dev nD) (k : Kx) : Decidable (Live c k) := by unfold Live; split <;> infer_instance

/-- One round: each used cell has one duty. -/
def haloRd : Rounds.Schedule (GSem nD τ sig) Unit 𝕄 where
  duties g r := match ixOf g.2 with
    | some k => if r = 0 ∧ g.1.2 = .tc ∧ Live g.1.1 k then {()} else ∅
    | none => ∅
  unitless _ := False
  amount g _ _ := match ixOf g.2 with
    | some k => units k
    | none => 1
  payload g _ _ := match ixOf g.2 with
    | some k => pay m ρ g.1.1 k
    | none => iprop(emp)
  amount_pos g _ _ _ := by
    split
    · exact units_pos _
    · exact Nat.one_pos

instance haloRd_payload_storable (g : GSem nD τ sig) (r : ℕ) (d : Unit) :
    BI.Storable (upEmb : UEmb _ 𝕄) ((haloRd (F := F) m ρ).payload g r d) := by
  show BI.Storable upEmb (match ixOf g.2 with | some k => pay m ρ g.1.1 k | none => iprop(emp))
  split <;> infer_instance

section Sched
variable (c : Dev nD) (k : Kx)

omit [FloatOps F] in
theorem duties_live (h : Live c k) : (haloRd (F := F) m ρ).duties (cellAt c k) 0 = {()} := by
  dsimp only [haloRd]; rw [ixOf_csem]; exact if_pos ⟨rfl, rfl, h⟩
omit [FloatOps F] in
theorem duties_dead (h : ¬ Live c k) (r : ℕ) : (haloRd (F := F) m ρ).duties (cellAt c k) r = ∅ := by
  dsimp only [haloRd]; rw [ixOf_csem]; exact if_neg fun h' => h h'.2.2
omit [FloatOps F] in
theorem duties_later (r : ℕ) (hr : 1 ≤ r) : (haloRd (F := F) m ρ).duties (cellAt c k) r = ∅ := by
  dsimp only [haloRd]; rw [ixOf_csem]; exact if_neg fun h' => by omega
omit [FloatOps F] in
theorem amount_at (u : Unit) : (haloRd (F := F) m ρ).amount (cellAt c k) 0 u = units k := by
  dsimp only [haloRd]; rw [ixOf_csem]
omit [FloatOps F] in
theorem payload_at (u : Unit) : (haloRd (F := F) m ρ).payload (cellAt c k) 0 u = pay m ρ c k := by
  dsimp only [haloRd]; rw [ixOf_csem]
omit [FloatOps F] in
theorem expect_live (h : Live c k) : (haloRd (F := F) m ρ).expect (cellAt c k) 0 = units k := by
  unfold Schedule.expect Schedule.amountOf; rw [duties_live m ρ c k h, Finset.sum_singleton, amount_at]
omit [FloatOps F] in
/-- The whole round of a used cell hands over its one payload. -/
theorem rest_live (h : Live c k) : bigSep ((haloRd (F := F) m ρ).duties (cellAt c k) 0 \ ∅) (fun d => (haloRd (F := F) m ρ).payload (cellAt c k) 0 d) = pay m ρ c k := by
  rw [Finset.sdiff_empty, duties_live m ρ c k h, bigSep_singleton, payload_at]

end Sched

/-! ## What each device owes at launch; the levels -/

/-- The unit `c` owes its neighbour's ready cell in direction `d`. -/
def owedReady (c : Dev nD) (d : Fin 6) : CellTallies nD τ sig Unit := if Has d c then tallyAt (readyCell (nbr d c) (opp d)) () 1 else 0
/-- The face `c` owes its neighbour's receive cell in direction `d`. -/
def owedRecv (c : Dev nD) (d : Fin 6) : CellTallies nD τ sig Unit := if Has d c then tallyAt (recvCell (nbr d c) (opp d)) () N else 0

/-- All six directions, in the order the program treats them. -/
abbrev dirs : List (Fin 6) := [0, 1, 2, 3, 4, 5]
/-- The copies still to be made. -/
def owedCopies (c : Dev nD) (l : List (Fin 6)) : CellTallies nD τ sig Unit := l.foldr (fun d O => O + owedRecv c d) 0
/-- The signals still to be sent, and all the copies. -/
def owedSignals (c : Dev nD) (l : List (Fin 6)) : CellTallies nD τ sig Unit := l.foldr (fun d O => O + owedReady c d) (owedCopies c dirs)
/-- All a device owes: its barrier unit, the signals, the copies. -/
def O₀ (c : Dev nD) : CellTallies nD τ sig Unit := owedSignals c dirs + tallyAt (barCell c) () 1

def L (g : GSem nD τ sig) : Finset Unit := if g.1.2 = .tc then {()} else ∅
/-- The level of a protocol cell: barrier 1, ready 2, receive 3, send 0. -/
def lvK : Kx → ℕ
  | none => 1
  | some (0, _) => 2
  | some (1, _) => 0
  | some (2, _) => 3
/-- The levels; the pipeline's own cells are at 0. -/
def lv (g : GSem nD τ sig) (_ : Unit) : ℕ := match ixOf g.2 with
  | some k => lvK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kx) (u : Unit) : lv (cellAt c k) u = lvK k := by unfold lv; rw [ixOf_csem]

theorem tally_add_pos {A B : CellTallies nD τ sig Unit} {g : GSem nD τ sig} {u : Unit} (h : 0 < (A + B) g u) : 0 < A g u ∨ 0 < B g u := by
  rw [Pi.add_apply, Finsupp.add_apply] at h; omega
theorem tallyAt_pos {g' g : GSem nD τ sig} {n : ℕ} {u : Unit} (h : 0 < tallyAt (Ix := Unit) g' () n g u) : g = g' := by
  by_contra hn
  rw [tallyAt_apply, if_neg (fun h' => hn h'.1)] at h
  exact absurd h (Nat.lt_irrefl 0)

theorem owedReady_pos {c : Dev nD} {d : Fin 6} {g : GSem nD τ sig} {u : Unit} (h : 0 < owedReady c d g u) : ∃ c' d', g = readyCell c' d' := by
  unfold owedReady at h
  split at h
  · exact ⟨_, _, tallyAt_pos h⟩
  · exact absurd h (Nat.lt_irrefl 0)
theorem owedRecv_pos {c : Dev nD} {d : Fin 6} {g : GSem nD τ sig} {u : Unit} (h : 0 < owedRecv c d g u) : ∃ c' d', g = recvCell c' d' := by
  unfold owedRecv at h
  split at h
  · exact ⟨_, _, tallyAt_pos h⟩
  · exact absurd h (Nat.lt_irrefl 0)
theorem owedCopies_pos {c : Dev nD} {l : List (Fin 6)} {g : GSem nD τ sig} {u : Unit} (h : 0 < owedCopies c l g u) : ∃ c' d', g = recvCell c' d' := by
  induction l with
  | nil => exact absurd h (Nat.lt_irrefl 0)
  | cons d l ih => exact (tally_add_pos h).elim ih owedRecv_pos
theorem owedSignals_pos {c : Dev nD} {l : List (Fin 6)} {g : GSem nD τ sig} {u : Unit} (h : 0 < owedSignals c l g u) :
    (∃ c' d', g = recvCell c' d') ∨ ∃ c' d', g = readyCell c' d' := by
  induction l with
  | nil => exact Or.inl (owedCopies_pos h)
  | cons d l ih => exact (tally_add_pos h).elim ih fun h => Or.inr (owedReady_pos h)
theorem O₀_pos {c : Dev nD} {g : GSem nD τ sig} {u : Unit} (h : 0 < O₀ c g u) : ∃ c' k, g = cellAt c' k ∧ 1 ≤ lvK k := by
  rcases tally_add_pos h with h | h
  · rcases owedSignals_pos h with ⟨c', d', e⟩ | ⟨c', d', e⟩
    · exact ⟨c', _, e, by simp [lvK]⟩
    · exact ⟨c', _, e, by simp [lvK]⟩
  · exact ⟨c, none, tallyAt_pos h, by decide⟩

omit [FloatOps F] in
/-- A device may wait on a cell of level at most `n` while everything it owes is on protocol cells of higher levels. -/
theorem mayWait_cut (n : ℕ) (c : Dev nD) (sm : SemLoc sig) (hl : lv ((c : Thread nD τ), sm) () ≤ n) (O : CellTallies nD τ sig Unit)
    (hO : ∀ g u, 0 < O g u → ∃ c' k, g = cellAt c' k ∧ n + 1 ≤ lvK k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact hl)
    (fun g u hg => by obtain ⟨c', k, rfl, h⟩ := hO g u hg; rw [lv_cell]; exact h)

omit [FloatOps F] in
theorem mayWait_bar (c : Dev nD) : (levAts L lv : sProp 𝕄) ⊢ MayWait (c : Thread nD τ) (.reg barS) () (owedSignals c dirs) :=
  mayWait_cut 1 c _ (le_of_eq (lv_cell c none ())) _ fun g u hg => by
    rcases owedSignals_pos hg with ⟨c', d', e⟩ | ⟨c', d', e⟩
    · exact ⟨c', _, e, by simp [lvK]⟩
    · exact ⟨c', _, e, by simp [lvK]⟩
omit [FloatOps F] in
theorem mayWait_ready (c : Dev nD) (d : Fin 6) (l : List (Fin 6)) :
    (levAts L lv : sProp 𝕄) ⊢ MayWait (c : Thread nD τ) (.reg (readyS d)) () (owedCopies c l) :=
  mayWait_cut 2 c _ (le_of_eq (lv_cell c (some (0, d)) ())) _ fun g u hg => by
    obtain ⟨c', d', e⟩ := owedCopies_pos hg
    exact ⟨c', _, e, by simp [lvK]⟩
omit [FloatOps F] in
theorem mayWait_stage (c : Dev nD) (q : DmaSem sig) (hq : ixOf (.dma q) = none) (O : CellTallies nD τ sig Unit) (hO : O = O₀ c ∨ O = 0) :
    (levAts L lv : sProp 𝕄) ⊢ MayWait (c : Thread nD τ) (.dma q) () O := by
  rcases hO with rfl | rfl
  · exact mayWait_cut 0 c _ (by unfold lv; rw [hq]) _ fun g u hg => O₀_pos hg
  · rw [MayWait_zero]; iintro -; iempintro

end Cert.Halo

end

end
-- ==== Proof.Contents.lean ====
/-
# What the body's local statements do to the contents

A direction's contribution to the result is an addition on the outermost plane of that direction (`addFace`); where there
is no neighbour, that plane is set to zero at the end (`zeroFace`). The theorems say that the kernel's stores, through its
slices and reshapes, do exactly this to the result's block, and that its send slots receive the block's faces.
-/
module

public import proofs.«01_k».proof.Proof.Protocol

@[expose] public section

noncomputable section

namespace Cert.Halo

open Cert.KernelIdeal Cert.KernelIdeal.Gen

open Idealize.ShloMosaic
open Idealize.ShloMosaic.TcCoe
open Idealize.ShloMosaic.VecWindow

variable {F : FTy → Type} [FloatOps F]

/-- The result's staging buffer. -/
abbrev oM : Memref sig .tc .vmem S32x32x32 .bf16 := Memref.whole cc0_stg1_0

/-! ## The two changes of the result's block -/

/-- The plane `X` added to the outermost plane in direction `d`. -/
def addFace (d : Fin 6) (X : Plane (F := F)) (o : Blk (F := F)) : Blk (F := F) := fun i =>
  if (i (axis d)).val = edge d then FloatOps.addf (o i) (X (inPlane d i)) else o i
/-- The outermost plane in direction `d` set to zero. -/
def zeroFace (d : Fin 6) (o : Blk (F := F)) : Blk (F := F) := fun i =>
  if (i (axis d)).val = edge d then Scalar.ofBits .bf16 0x0000#16 else o i

/-! ## Stores into the result's block -/

/-- A store through a rectangle of the result's buffer replaces that window. -/
theorem write_put (off size : Fin 3 → ℕ) (inb : ∀ a, off a + size a ≤ S32x32x32.size a) (o : Blk (F := F))
    (w : (Rect.unit (s := S32x32x32) off size inb).shape.Idx → Elt F .bf16) :
    (oM.access (Rect.unit (s := S32x32x32) off size inb)).write (Elt F) o w Finset.univ = put o off size w :=
  View.read_writes_cons_put (Val := Elt F) oM.view o inb w [] rfl

theorem read_window (off size : Fin 3 → ℕ) (inb : ∀ a, off a + size a ≤ S32x32x32.size a) (o : Blk (F := F)) :
    oM.view.readAt (Elt F) (Rect.unit (s := S32x32x32) off size inb).toLoadRect o = window o off size inb := rfl

/-- A window read at an element's place in it is the element. -/
theorem window_local {α : Type} (o : S32x32x32.Idx → α) (off size : Fin 3 → ℕ) (inb : ∀ a, off a + size a ≤ S32x32x32.size a) (i : S32x32x32.Idx)
    (h : ∀ a, off a ≤ (i a).val ∧ (i a).val < off a + size a) :
    window o off size inb (Rect.unitLocal (s := S32x32x32) (off := off) (size := size) i h) = o i := by
  unfold window
  refine congrArg o (funext fun a => Fin.ext ?_)
  show off a + 1 * ((i a).val - off a) = (i a).val
  have := h a; omega

/-- A payload put on exactly an outermost plane. -/
theorem put_plane {α : Type} (d : Fin 6) (off size : Fin 3 → ℕ) (o : S32x32x32.Idx → α) (w : ((a : Fin 3) → Fin (size a)) → α) (g : S32x32x32.Idx → α)
    (hbox : ∀ i : S32x32x32.Idx, (∀ a, off a ≤ (i a).val ∧ (i a).val < off a + size a) ↔ (i (axis d)).val = edge d)
    (hw : ∀ (i : S32x32x32.Idx) (h : ∀ a, off a ≤ (i a).val ∧ (i a).val < off a + size a), w (Rect.unitLocal (s := S32x32x32) (off := off) (size := size) i h) = g i) :
    put (s := S32x32x32) o off size w = fun i => if (i (axis d)).val = edge d then g i else o i := by
  funext i
  unfold put
  by_cases h : ∀ a, off a ≤ (i a).val ∧ (i a).val < off a + size a
  · rw [dif_pos h, if_pos ((hbox i).mp h)]; exact hw i h
  · rw [dif_neg h, if_neg fun h' => h ((hbox i).mpr h')]

/-- A two-row window, with a slice of it replaced, put back: only the slice is put. -/
theorem put_update {α : Type} (o : S32x32x32.Idx → α) (off size start : Fin 3 → ℕ) (u : Fin 3 → ℕ) (inb : ∀ a, off a + size a ≤ S32x32x32.size a)
    (w : (⟨3, u⟩ : Shape).Idx → α) (h : (⟨3, size⟩ : Shape).Slices start ⟨3, u⟩) :
    put (s := S32x32x32) o off size (updateSlice (s := ⟨3, size⟩) (u := ⟨3, u⟩) (window o off size inb) w start h)
      = put (s := S32x32x32) o (fun a => off a + start a) u w := by
  funext i
  have hin : ∀ a : Fin 3, start a + u a ≤ size a := fun a => h.2 a
  unfold put
  by_cases h1 : ∀ a, off a ≤ (i a).val ∧ (i a).val < off a + size a
  · rw [dif_pos h1]
    unfold updateSlice
    by_cases h2 : ∀ a : Fin 3, off a + start a ≤ (i a).val ∧ (i a).val < off a + start a + u a
    · rw [dif_pos h2, dif_pos (fun a => by
        have := h2 a
        show start a ≤ (i a).val - off a ∧ (i a).val - off a < start a + u a
        omega)]
      refine congrArg w (funext fun a => Fin.ext ?_)
      show (i a).val - off a - start a = (i a).val - (off a + start a)
      omega
    · rw [dif_neg h2, dif_neg fun h3 => h2 fun a => by
        have := h3 a
        have e : start a ≤ (i a).val - off a ∧ (i a).val - off a < start a + u a := this
        have := h1 a
        omega]
      exact window_local o off size inb i h1
  · rw [dif_neg h1, dif_neg fun h2 => h1 fun a => by
      have h3 : off a + start a ≤ (i a).val ∧ (i a).val < off a + start a + u a := h2 a
      have := hin a; omega]

/-! ## Planes as thin blocks -/

theorem plane_x {α : Type} (X : S32x32.Idx → α) (h : S32x32.ShapeCasts S1x32x32) (y : S1x32x32.Idx) :
    shapeCast S1x32x32 X h y = X (ix2 (y 1) (y 2)) :=
  shapeCast_apply X h y _ (by
    rw [Shape.rowMajor_val_two, Shape.rowMajor_val_three]
    have : (y 0).val < 1 := (y 0).isLt
    show (y 1).val * 32 + (y 2).val = ((y 0).val * 32 + (y 1).val) * 32 + (y 2).val
    omega)
theorem plane_y {α : Type} (X : S32x32.Idx → α) (h : S32x32.ShapeCasts S32x1x32) (y : S32x1x32.Idx) :
    shapeCast S32x1x32 X h y = X (ix2 (y 0) (y 2)) :=
  shapeCast_apply X h y _ (by
    rw [Shape.rowMajor_val_two, Shape.rowMajor_val_three]
    have : (y 1).val < 1 := (y 1).isLt
    show (y 0).val * 32 + (y 2).val = ((y 0).val * 1 + (y 1).val) * 32 + (y 2).val
    omega)
theorem plane_z {α : Type} (X : S32x32.Idx → α) (h : S32x32.ShapeCasts S32x32x1) (y : S32x32x1.Idx) :
    shapeCast S32x32x1 X h y = X (ix2 (y 0) (y 1)) :=
  shapeCast_apply X h y _ (by
    rw [Shape.rowMajor_val_two, Shape.rowMajor_val_three]
    have : (y 2).val < 1 := (y 2).isLt
    show (y 0).val * 32 + (y 1).val = ((y 0).val * 32 + (y 1).val) * 1 + (y 2).val
    omega)

/-! ## The halo additions -/

/-- The contents of the landing buffer of a direction's axis. -/
abbrev Halo (d : Fin 6) : Type := (hBuf (axis d)).view.ty.Contents (Elt F)
/-- A load of a direction's landing slot. -/
abbrev slotRead (d : Fin 6) (f : Halo (F := F) d) : S1x32x32.Idx → Elt F .bf16 :=
  (hBuf (axis d)).view.readAt (Elt F) (slotRect d).toLoadRect f

/-- The landing slot as a plane is its load, reshaped. -/
theorem read_slot (d : Fin 6) (f : Halo (F := F) d) (h : S1x32x32.ShapeCasts S32x32) :
    shapeCast S32x32 (slotRead d f) h = (hM d).view.read (Elt F) f := rfl

theorem box_x (d : Fin 6) (hd : d = 0 ∨ d = 1) (i : S32x32x32.Idx) :
    (∀ a : Fin 3, (![edge d, 0, 0] : Fin 3 → ℕ) a ≤ (i a).val ∧ (i a).val < (![edge d, 0, 0] : Fin 3 → ℕ) a + S1x32x32.size a) ↔ (i (axis d)).val = edge d := by
  have h0 : (i 0).val < 32 := (i 0).isLt
  have h1 : (i 1).val < 32 := (i 1).isLt
  have h2 : (i 2).val < 32 := (i 2).isLt
  rw [show ((i (axis d)).val = edge d ↔ (i 0).val = edge d) by rcases hd with rfl | rfl <;> rfl]
  rw [Fin.forall_fin_succ, Fin.forall_fin_succ, Fin.forall_fin_succ]
  show ((edge d ≤ (i 0).val ∧ (i 0).val < edge d + 1) ∧ (0 ≤ (i 1).val ∧ (i 1).val < 0 + 32) ∧ (0 ≤ (i 2).val ∧ (i 2).val < 0 + 32) ∧ _) ↔ _
  constructor
  · intro h; omega
  · intro h; exact ⟨by omega, by omega, by omega, fun a => a.elim0⟩
theorem box_y (d : Fin 6) (hd : d = 2 ∨ d = 3) (i : S32x32x32.Idx) :
    (∀ a : Fin 3, (![0, edge d, 0] : Fin 3 → ℕ) a ≤ (i a).val ∧ (i a).val < (![0, edge d, 0] : Fin 3 → ℕ) a + S32x1x32.size a) ↔ (i (axis d)).val = edge d := by
  have h0 : (i 0).val < 32 := (i 0).isLt
  have h1 : (i 1).val < 32 := (i 1).isLt
  have h2 : (i 2).val < 32 := (i 2).isLt
  rw [show ((i (axis d)).val = edge d ↔ (i 1).val = edge d) by rcases hd with rfl | rfl <;> rfl]
  rw [Fin.forall_fin_succ, Fin.forall_fin_succ, Fin.forall_fin_succ]
  show ((0 ≤ (i 0).val ∧ (i 0).val < 0 + 32) ∧ (edge d ≤ (i 1).val ∧ (i 1).val < edge d + 1) ∧ (0 ≤ (i 2).val ∧ (i 2).val < 0 + 32) ∧ _) ↔ _
  constructor
  · intro h; omega
  · intro h; exact ⟨by omega, by omega, by omega, fun a => a.elim0⟩
theorem box_z (d : Fin 6) (hd : d = 4 ∨ d = 5) (i : S32x32x32.Idx) :
    (∀ a : Fin 3, (![0, 0, edge d] : Fin 3 → ℕ) a ≤ (i a).val ∧ (i a).val < (![0, 0, edge d] : Fin 3 → ℕ) a + S32x32x1.size a) ↔ (i (axis d)).val = edge d := by
  have h0 : (i 0).val < 32 := (i 0).isLt
  have h1 : (i 1).val < 32 := (i 1).isLt
  have h2 : (i 2).val < 32 := (i 2).isLt
  rw [show ((i (axis d)).val = edge d ↔ (i 2).val = edge d) by rcases hd with rfl | rfl <;> rfl]
  rw [Fin.forall_fin_succ, Fin.forall_fin_succ, Fin.forall_fin_succ]
  show ((0 ≤ (i 0).val ∧ (i 0).val < 0 + 32) ∧ (0 ≤ (i 1).val ∧ (i 1).val < 0 + 32) ∧ (edge d ≤ (i 2).val ∧ (i 2).val < edge d + 1) ∧ _) ↔ _
  constructor
  · intro h; omega
  · intro h; exact ⟨by omega, by omega, by omega, fun a => a.elim0⟩

/-- The addition across the first axis. -/
theorem add_x (d : Fin 6) (hd : d = 0 ∨ d = 1) (o : Blk (F := F)) (f : Halo (F := F) d) (inb : ∀ a, (![edge d, 0, 0] : Fin 3 → ℕ) a + S1x32x32.size a ≤ S32x32x32.size a) :
    put (s := S32x32x32) o ![edge d, 0, 0] S1x32x32.size (k0_pay14 (window o ![edge d, 0, 0] S1x32x32.size inb) (slotRead d f))
      = addFace d ((hM d).view.read (Elt F) f) o := by
  refine put_plane d _ _ o _ (fun i => FloatOps.addf (o i) ((hM d).view.read (Elt F) f (inPlane d i))) (box_x d hd) fun i h => ?_
  refine congr (congrArg FloatOps.addf ?_) ?_
  · exact (congrFun (shapeCast_self _ _) _).trans (window_local o _ _ inb i h)
  · refine (plane_x _ _ _).trans ((congrFun (read_slot d f _) _).trans (congrArg _ ?_))
    rcases hd with rfl | rfl <;> rfl
/-- The addition across the second axis. -/
theorem add_y (d : Fin 6) (hd : d = 2 ∨ d = 3) (o : Blk (F := F)) (f : Halo (F := F) d) (inb : ∀ a, (![0, edge d, 0] : Fin 3 → ℕ) a + S32x1x32.size a ≤ S32x32x32.size a) :
    put (s := S32x32x32) o ![0, edge d, 0] S32x1x32.size (k0_pay16 (window o ![0, edge d, 0] S32x1x32.size inb) (slotRead d f))
      = addFace d ((hM d).view.read (Elt F) f) o := by
  refine put_plane d _ _ o _ (fun i => FloatOps.addf (o i) ((hM d).view.read (Elt F) f (inPlane d i))) (box_y d hd) fun i h => ?_
  refine congr (congrArg FloatOps.addf ?_) ?_
  · exact (congrFun (shapeCast_self _ _) _).trans (window_local o _ _ inb i h)
  · refine (plane_y _ _ _).trans ((congrFun (read_slot d f _) _).trans (congrArg _ ?_))
    rcases hd with rfl | rfl <;> rfl
/-- The addition across the third axis. -/
theorem add_z (d : Fin 6) (hd : d = 4 ∨ d = 5) (o : Blk (F := F)) (f : Halo (F := F) d) (inb : ∀ a, (![0, 0, edge d] : Fin 3 → ℕ) a + S32x32x1.size a ≤ S32x32x32.size a) :
    put (s := S32x32x32) o ![0, 0, edge d] S32x32x1.size (k0_pay18 (window o ![0, 0, edge d] S32x32x1.size inb) (slotRead d f))
      = addFace d ((hM d).view.read (Elt F) f) o := by
  refine put_plane d _ _ o _ (fun i => FloatOps.addf (o i) ((hM d).view.read (Elt F) f (inPlane d i))) (box_z d hd) fun i h => ?_
  refine congr (congrArg FloatOps.addf ?_) ?_
  · exact (congrFun (shapeCast_self _ _) _).trans (window_local o _ _ inb i h)
  · refine (plane_z _ _ _).trans ((congrFun (read_slot d f _) _).trans (congrArg _ ?_))
    rcases hd with rfl | rfl <;> rfl

/-! ## The zeroings -/

theorem zero_x (d : Fin 6) (hd : d = 0 ∨ d = 1) (o : Blk (F := F)) : put (s := S32x32x32) o ![edge d, 0, 0] S1x32x32.size (k0_pay20 (F := F)) = zeroFace d o :=
  put_plane d _ _ o _ (fun _ => Scalar.ofBits .bf16 0x0000#16) (box_x d hd) fun _ _ => rfl
theorem zero_y (d : Fin 6) (hd : d = 2 ∨ d = 3) (o : Blk (F := F)) : put (s := S32x32x32) o ![0, edge d, 0] S32x1x32.size (k0_pay22 (F := F)) = zeroFace d o :=
  put_plane d _ _ o _ (fun _ => Scalar.ofBits .bf16 0x0000#16) (box_y d hd) fun _ _ => rfl
theorem zero_z (d : Fin 6) (hd : d = 4 ∨ d = 5) (o : Blk (F := F)) : put (s := S32x32x32) o ![0, 0, edge d] S32x32x1.size (k0_pay1 (F := F)) = zeroFace d o :=
  put_plane d _ _ o _ (fun _ => Scalar.ofBits .bf16 0x0000#16) (box_z d hd) fun _ _ => rfl

/-! ## The faces in the send slots -/

/-- A send slot's plane after its store is the payload, reshaped. -/
theorem slot_written (M : Memref sig .tc .vmem S2x32x32 .bf16) (d : Fin 6) (f : M.view.ty.Contents (Elt F)) (w : S1x32x32.Idx → Elt F .bf16)
    (h : S1x32x32.ShapeCasts S32x32) :
    (slot M d).view.read (Elt F) ((M.access (slotRect d)).write (Elt F) f w Finset.univ) = shapeCast S32x32 w h := by
  have e := View.read_write_univ (Val := Elt F) (v := M.access (slotRect d)) f w
  exact congrArg (fun x : S1x32x32.Idx → Elt F .bf16 => shapeCast S32x32 x h) e

theorem thin_x {α : Type} (x : S1x32x32.Idx → α) (h : S1x32x32.ShapeCasts S32x32) (j : S32x32.Idx) :
    shapeCast S32x32 x h j = x (ix3 (0 : Fin 1) (j 0) (j 1)) :=
  shapeCast_apply x h j _ (by
    rw [Shape.rowMajor_val_two, Shape.rowMajor_val_three]
    show (0 * 32 + (j 0).val) * 32 + (j 1).val = (j 0).val * 32 + (j 1).val
    omega)
theorem thin_y {α : Type} (x : S32x1x32.Idx → α) (h : S32x1x32.ShapeCasts S1x32x32) (a b : Fin 32) :
    shapeCast S1x32x32 x h (ix3 (0 : Fin 1) a b) = x (ix3 a (0 : Fin 1) b) :=
  shapeCast_apply x h _ _ (by
    rw [Shape.rowMajor_val_three, Shape.rowMajor_val_three]
    show (a.val * 1 + 0) * 32 + b.val = (0 * 32 + a.val) * 32 + b.val
    omega)
theorem thin_z {α : Type} (x : S32x32x1.Idx → α) (h : S32x32x1.ShapeCasts S1x32x32) (a b : Fin 32) :
    shapeCast S1x32x32 x h (ix3 (0 : Fin 1) a b) = x (ix3 a b (0 : Fin 1)) :=
  shapeCast_apply x h _ _ (by
    rw [Shape.rowMajor_val_three, Shape.rowMajor_val_three]
    show (a.val * 32 + b.val) * 1 + 0 = (0 * 32 + a.val) * 32 + b.val
    omega)

theorem face_x (d : Fin 6) (hd : d = 0 ∨ d = 1) (v : Blk (F := F)) (hs : S32x32x32.Slices ![edge d, 0, 0] S1x32x32) (h₁ : S32x32x32.ShapeCasts S32x32x32)
    (h₂ : S1x32x32.ShapeCasts S1x32x32) (h : S1x32x32.ShapeCasts S32x32) :
    shapeCast S32x32 (shapeCast S1x32x32 (extractStridedSlice S1x32x32 ![edge d, 0, 0] (shapeCast S32x32x32 v h₁) hs) h₂) h = face d v := by
  funext j
  rw [shapeCast_self, shapeCast_self, thin_x]
  exact extractStridedSlice_apply _ _ _ _ (onPlane d j) (fun a => by
    rcases hd with rfl | rfl <;> fin_cases a <;> simp [onPlane, axis, edge, ix3])
theorem face_y (d : Fin 6) (hd : d = 2 ∨ d = 3) (v : Blk (F := F)) (hs : S32x32x32.Slices ![0, edge d, 0] S32x1x32) (h₁ : S32x32x32.ShapeCasts S32x32x32)
    (h₂ : S32x1x32.ShapeCasts S1x32x32) (h₃ : S1x32x32.ShapeCasts S1x32x32) (h : S1x32x32.ShapeCasts S32x32) :
    shapeCast S32x32 (shapeCast S1x32x32 (shapeCast S1x32x32 (extractStridedSlice S32x1x32 ![0, edge d, 0] (shapeCast S32x32x32 v h₁) hs) h₂) h₃) h = face d v := by
  funext j
  rw [shapeCast_self, shapeCast_self, thin_x]
  refine (thin_y _ _ _ _).trans ?_
  exact extractStridedSlice_apply _ _ _ _ (onPlane d j) (fun a => by
    rcases hd with rfl | rfl <;> fin_cases a <;> simp [onPlane, axis, edge, ix3])
theorem face_z (d : Fin 6) (hd : d = 4 ∨ d = 5) (v : Blk (F := F)) (hs : S32x32x32.Slices ![0, 0, edge d] S32x32x1) (h₁ : S32x32x32.ShapeCasts S32x32x32)
    (h₂ : S32x32x1.ShapeCasts S1x32x32) (h₃ : S1x32x32.ShapeCasts S1x32x32) (h : S1x32x32.ShapeCasts S32x32) :
    shapeCast S32x32 (shapeCast S1x32x32 (shapeCast S1x32x32 (extractStridedSlice S32x32x1 ![0, 0, edge d] (shapeCast S32x32x32 v h₁) hs) h₂) h₃) h = face d v := by
  funext j
  rw [shapeCast_self, shapeCast_self, thin_x]
  refine (thin_z _ _ _ _).trans ?_
  exact extractStridedSlice_apply _ _ _ _ (onPlane d j) (fun a => by
    rcases hd with rfl | rfl <;> fin_cases a <;> simp [onPlane, axis, edge, ix3])

end Cert.Halo
end
end
-- ==== Proof.Steps.lean ====
/-
# The exchange, one statement at a time, for every direction

Each theorem here is about one statement of the kernel's body, at a symbolic device `c` and a symbolic direction `d`:
the store of a face, the signal, the wait for the neighbour's signal with the copy after it, the two waits for the landing
and for the send, the addition of what landed, and the zeroing. A statement guarded by "there is a neighbour" (or "there is
none") is treated in both cases at once. `pFace`, `pSignal`, … name the statements, with the rest `k` of the program after
them.
-/
module

public import proofs.«01_k».proof.Proof.Contents

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none
/-- The programs of a TensorCore. -/
abbrev KProg (F : FTy → Type) : Type → Type _ := Prog (TpuEff nD τ sig (Elt F) Λ₀ .tc)

/-! ## What all devices share: the cells' invariants and that round 0 of each is reached -/

def records (K : Dev nD × Kx → ℕ) : sProp 𝕄 :=
  iprop((bigSep Finset.univ fun ck : Dev nD × Kx => cellInv ER (haloRd m ρ) (K ck) (cellAt ck.1 ck.2))
    ∗ bigSep Finset.univ fun ck : Dev nD × Kx => reached ER (cellAt ck.1 ck.2) 0)
instance records_persistent (K : Dev nD × Kx → ℕ) : BI.Persistent (records m ρ K) := by unfold records; infer_instance

variable (K : Dev nD × Kx → ℕ)

omit [FloatOps F] in
theorem rec_inv (c : Dev nD) (k : Kx) : records m ρ K ⊢ cellInv ER (haloRd m ρ) (K (c, k)) (cellAt c k) := by
  unfold records
  exact (sep_elim_left).trans (bigSep_elim (Φ := fun ck : Dev nD × Kx => cellInv ER (haloRd m ρ) (K ck) (cellAt ck.1 ck.2)) (Finset.mem_univ (c, k)))
omit [FloatOps F] in
theorem rec_reached (c : Dev nD) (k : Kx) : records m ρ K ⊢ (reached ER (cellAt c k) 0 : sProp 𝕄) := by
  unfold records
  exact (sep_elim_right).trans (bigSep_elim (Φ := fun ck : Dev nD × Kx => (reached ER (cellAt ck.1 ck.2) 0 : sProp 𝕄)) (Finset.mem_univ (c, k)))

/-- Device `c` owes `O`, whatever it has waited on so far. -/
def ow (c : Dev nD) (O : CellTallies nD τ sig Unit) : sProp 𝕄 := iprop(∃ W : Waits sig Unit, owes (c : Thread nD τ) O W)

/-! ## The states of a direction -/

/-- The three cells of a direction at their starting round. -/
def atStart (d : Fin 6) (c : Dev nD) : sProp 𝕄 :=
  iprop(atPos ER (readyCell c d) 0 ∅ 0 ∗ atPos ER (sendCell c d) 0 ∅ 0 ∗ atPos ER (recvCell c d) 0 ∅ 0)
/-- The credit for a cell that is used; nothing for one that is not. -/
def credIf (d : Fin 6) (c : Dev nD) (k : Fin 3) (n : ℕ) : sProp 𝕄 :=
  if Has d c then cred (tallyAt (cellAt c (some (k, d))) () n) else iprop(emp)

/-- Before the signals: the tokens of the duties `c` pays in direction `d`, its own credits, its landing slot. -/
def st0 (d : Fin 6) (c : Dev nD) : sProp 𝕄 :=
  iprop(atStart d c
    ∗ dutyTok ER (readyCell (peer (c, d)).1 (peer (c, d)).2) 0 ()
    ∗ dutyTok ER (sendCell c d) 0 ()
    ∗ dutyTok ER (recvCell (peer (c, d)).1 (peer (c, d)).2) 0 ()
    ∗ credIf d c 0 1 ∗ credIf d c 2 N ∗ anyIn (hM d) c)
/-- After the signal: the landing slot is with the neighbour, if there is one. -/
def st1 (d : Fin 6) (c : Dev nD) : sProp 𝕄 :=
  iprop(atStart d c
    ∗ dutyTok ER (sendCell c d) 0 ()
    ∗ dutyTok ER (recvCell (peer (c, d)).1 (peer (c, d)).2) 0 ()
    ∗ credIf d c 0 1 ∗ credIf d c 2 N ∗ (if Has d c then iprop(emp) else anyIn (hM d) c))
/-- A direction without a neighbour: nothing moved. -/
def idle (d : Fin 6) (c : Dev nD) : sProp 𝕄 := iprop(atStart d c ∗ anyIn (hM d) c ∗ holds (sM d) c (face d (xstg m ρ c)))
/-- After the copy was started. -/
def st2 (d : Fin 6) (c : Dev nD) : sProp 𝕄 :=
  if Has d c then
    iprop(atPos ER (readyCell c d) 1 ∅ 0 ∗ atPos ER (sendCell c d) 0 ∅ 0 ∗ atPos ER (recvCell c d) 0 ∅ 0
      ∗ cred (tallyAt (recvCell c d) () N) ∗ cred (tallyAt (sendCell c d) () N))
  else idle m ρ d c
/-- After both waits: the neighbour's face has landed, and the send slot is back. -/
def st3 (d : Fin 6) (c : Dev nD) : sProp 𝕄 :=
  if Has d c then
    iprop((atPos ER (readyCell c d) 1 ∅ 0 ∗ atPos ER (sendCell c d) 1 ∅ 0 ∗ atPos ER (recvCell c d) 1 ∅ 0)
      ∗ holds (hM d) c (landed m ρ d c) ∗ holds (sM d) c (face d (xstg m ρ c)))
  else idle m ρ d c
/-- At the end: the three counters at zero, both slots. -/
def st4 (d : Fin 6) (c : Dev nD) : sProp 𝕄 :=
  iprop((semVal (readyCell c d) 0 ∗ semVal (sendCell c d) 0 ∗ semVal (recvCell c d) 0) ∗ anyIn (hM d) c ∗ anyIn (sM d) c)

omit [FloatOps F] in
theorem close_cell (c : Dev nD) (k : Kx) (R : ℕ) (hR : ∀ r, R ≤ r → (haloRd (F := F) m ρ).duties (cellAt c k) r = ∅) :
    iprop(records m ρ K ∗ atPos ER (cellAt c k) R ∅ 0) ⊢ |={Set.univ}=> (semVal (cellAt c k) 0 : sProp 𝕄) := by
  iintro ⟨#HR, Ha⟩
  iapply (Rounds.cell_close ER (haloRd m ρ) (Set.mem_univ (K (c, k))) (fun h => h) (R := R) hR)
  isplitr
  · iapply (rec_inv m ρ K c k); iexact HR
  · iexact Ha

omit [FloatOps F] in
/-- The end of a direction: its cells close. -/
theorem close_dir (d : Fin 6) (c : Dev nD) : iprop(records m ρ K ∗ st3 m ρ d c) ⊢ |={Set.univ}=> (st4 d c : sProp 𝕄) := by
  unfold st3 st4
  by_cases h : Has d c
  · rw [if_pos h]
    iintro ⟨#HR, ⟨H0, H1, H2⟩, Hh, Hs⟩
    imod (close_cell m ρ K c (some (0, d)) 1 (duties_later m ρ c _)) $$ [H0] with Z0
    · isplitr; · iexact HR
      iexact H0
    imod (close_cell m ρ K c (some (1, d)) 1 (duties_later m ρ c _)) $$ [H1] with Z1
    · isplitr; · iexact HR
      iexact H1
    imod (close_cell m ρ K c (some (2, d)) 1 (duties_later m ρ c _)) $$ [H2] with Z2
    · isplitr; · iexact HR
      iexact H2
    imodintro
    isplitl [Z0 Z1 Z2]
    · isplitl [Z0]; · iexact Z0
      isplitl [Z1] <;> iassumption
    isplitl [Hh]
    · iapply (holds_any (hM d) c _); iexact Hh
    · iapply (holds_any (sM d) c _); iexact Hs
  · rw [if_neg h]
    unfold idle atStart
    iintro ⟨#HR, ⟨H0, H1, H2⟩, Hh, Hs⟩
    imod (close_cell m ρ K c (some (0, d)) 0 (fun r _ => duties_dead m ρ c (some (0, d)) h r)) $$ [H0] with Z0
    · isplitr; · iexact HR
      iexact H0
    imod (close_cell m ρ K c (some (1, d)) 0 (fun r _ => duties_dead m ρ c (some (1, d)) h r)) $$ [H1] with Z1
    · isplitr; · iexact HR
      iexact H1
    imod (close_cell m ρ K c (some (2, d)) 0 (fun r _ => duties_dead m ρ c (some (2, d)) h r)) $$ [H2] with Z2
    · isplitr; · iexact HR
      iexact H2
    imodintro
    isplitl [Z0 Z1 Z2]
    · isplitl [Z0]; · iexact Z0
      isplitl [Z1] <;> iassumption
    isplitl [Hh]; · iexact Hh
    iapply (holds_any (sM d) c _); iexact Hs

/-! ## The schedule at the semaphores as the program names them -/

omit [FloatOps F] in
theorem mem_live (c : Dev nD) (k : Kx) (h : Live c k) : () ∈ (haloRd (F := F) m ρ).duties (cellAt c k) 0 := by
  rw [duties_live m ρ c k h]; exact Finset.mem_singleton_self _
omit [FloatOps F] in
/-- The neighbour's unit: its landing slot. -/
theorem rest_ready (c : Dev nD) (d : Fin 6) (h : Has d c) :
    bigSep ((haloRd (F := F) m ρ).duties ((c : Thread nD τ), SemLoc.reg (readyS d)) 0 \ ∅) (fun u => (haloRd (F := F) m ρ).payload ((c : Thread nD τ), SemLoc.reg (readyS d)) 0 u)
      ⊢ anyIn (hM (opp d)) (nbr d c) := Entails.of_eq (rest_live m ρ c (some (0, d)) h)
omit [FloatOps F] in
/-- The end of the own copy: the send slot. -/
theorem rest_send (c : Dev nD) (d : Fin 6) (h : Has d c) :
    bigSep ((haloRd (F := F) m ρ).duties ((c : Thread nD τ), SemLoc.dma (sendS d)) 0 \ ∅) (fun u => (haloRd (F := F) m ρ).payload ((c : Thread nD τ), SemLoc.dma (sendS d)) 0 u)
      ⊢ holds (sM d) c (face d (xstg m ρ c)) := Entails.of_eq (rest_live m ρ c (some (1, d)) h)
omit [FloatOps F] in
/-- The landing: the neighbour's face. -/
theorem rest_recv (c : Dev nD) (d : Fin 6) (h : Has d c) :
    bigSep ((haloRd (F := F) m ρ).duties ((c : Thread nD τ), SemLoc.dma (recvS d)) 0 \ ∅) (fun u => (haloRd (F := F) m ρ).payload ((c : Thread nD τ), SemLoc.dma (recvS d)) 0 u)
      ⊢ holds (hM d) c (landed m ρ d c) := Entails.of_eq (rest_live m ρ c (some (2, d)) h)
omit [FloatOps F] in
/-- What a signal in direction `d` has to hand over: the own landing slot. -/
theorem pay_ready (c : Dev nD) (d : Fin 6) (h : Has d c) :
    anyIn (hM d) c ⊢ (haloRd (F := F) m ρ).payload ((nbr d c : Thread nD τ), SemLoc.reg (readyS (opp d))) 0 () := by
  refine Entails.of_eq ?_
  rw [show (haloRd (F := F) m ρ).payload ((nbr d c : Thread nD τ), SemLoc.reg (readyS (opp d))) 0 () = anyIn (hM (opp (opp d))) (nbr (opp d) (nbr d c))
    from payload_at m ρ (nbr d c) (some (0, opp d)) (), opp_opp, nbr_nbr h]
omit [FloatOps F] in
/-- What a copy in direction `d` hands its sender. -/
theorem pay_send (c : Dev nD) (d : Fin 6) :
    holds (sM d) c (face d (xstg m ρ c)) ⊢ (haloRd (F := F) m ρ).payload ((c : Thread nD τ), SemLoc.dma (sendS d)) 0 () :=
  Entails.of_eq (payload_at m ρ c (some (1, d)) ()).symm
omit [FloatOps F] in
/-- What a copy in direction `d` hands the neighbour. -/
theorem pay_recv (c : Dev nD) (d : Fin 6) (h : Has d c) :
    holds (hM (opp d)) (nbr d c) (face d (xstg m ρ c)) ⊢ (haloRd (F := F) m ρ).payload ((nbr d c : Thread nD τ), SemLoc.dma (recvS (opp d))) 0 () := by
  refine Entails.of_eq ?_
  rw [show (haloRd (F := F) m ρ).payload ((nbr d c : Thread nD τ), SemLoc.dma (recvS (opp d))) 0 () = holds (hM (opp d)) (nbr d c) (face (opp (opp d)) (xstg m ρ (nbr (opp d) (nbr d c))))
    from payload_at m ρ (nbr d c) (some (2, opp d)) (), opp_opp, nbr_nbr h]

omit [FloatOps F] in
theorem holds_intro (M : Memref sig .tc .vmem S32x32 .bf16) (c : Dev nD) (f : Buf (Elt F) (M.view.loc (c : Thread nD τ))) (X : Plane (F := F))
    (h : M.view.read (Elt F) f = X) : (M.view.loc (c : Thread nD τ) ↦[M.view.set]{fullShare} f : sProp 𝕄) ⊢ holds M c X := by
  unfold holds
  iintro H; iexists f; isplitr; · (ipureintro; exact h)
  iexact H

/-! ## The signal -/

theorem owedSignals_cons (c : Dev nD) (d : Fin 6) (l : List (Fin 6)) : owedSignals c (d :: l) = owedSignals c l + owedReady c d := rfl
theorem owedCopies_cons (c : Dev nD) (d : Fin 6) (l : List (Fin 6)) : owedCopies c (d :: l) = owedCopies c l + owedRecv c d := rfl

/-- The signal to the neighbour in direction `d`, if the guard `P` holds. -/
def pSignal {α : Type} (d : Fin 6) (P : Prop) [Decidable P] (n : P → Dev nD) (k : KProg F α) : KProg F α :=
  if h : P then (semSignalWord (n h) (readyS (opp d)) 1#32 >>= fun _ => k) else k

/-- The signal in direction `d`: the neighbour gets the landing slot. -/
theorem step_signal (d : Fin 6) (c : Dev nD) (l : List (Fin 6)) {P : Prop} [Decidable P] (hP : P ↔ Has d c)
    (n : P → Dev nD) (hn : ∀ h, n h = nbr d c) {α : Type} {Q : α → sProp 𝕄} {k : KProg F α} :
    iprop(records m ρ K ∗ (st0 d c ∗ ow c (owedSignals c (d :: l)))
        ∗ ((st1 d c ∗ ow c (owedSignals c l)) -∗ wp frame (wpE (defs₀ (F := F)) 𝒱₀ (c : Thread nD τ) none) Set.univ k Q))
      ⊢ wp frame (wpE (defs₀ (F := F)) 𝒱₀ (c : Thread nD τ) none) Set.univ (pSignal d P n k) Q := by
  unfold pSignal
  by_cases h : P
  · rw [dif_pos h, hn h]
    have hd := hP.mp h
    simp only [semSignalWord, Prog.bind_op, Prog.bind_ret]
    unfold st0 st1 ow
    rw [peer_has hd, owedSignals_cons, if_pos hd, show owedReady c d = _ from if_pos hd]
    iintro ⟨#HR, ⟨⟨Hst, Ht, Hts, Htr, Hc0, Hc2, Hh⟩, ⟨%W, HO⟩⟩, Hk⟩
    iapply (Rounds.wp_signal 𝒱₀ ER (haloRd m ρ) (c : Thread nD τ) none (dst := (nbr d c : Thread nD τ)) (sem := readyS (opp d)) (κ := K (nbr d c, some (0, opp d)))
        (r := 0) (d := ()) (k' := 1) (mem_live m ρ (nbr d c) (some (0, opp d)) (has_nbr hd))
        (amount_at m ρ (nbr d c) (some (0, opp d)) ()) () (owedSignals c l) rfl) $$ [HO Ht Hh]
    · isplitr; · iapply (rec_inv m ρ K (nbr d c) (some (0, opp d))); iexact HR
      isplitl [HO]; · iexact HO
      isplitl [Ht]; · iexact Ht
      isplitl [Hh]
      · iapply (pay_ready m ρ c d hd); iexact Hh
      · iapply (rec_reached m ρ K (nbr d c) (some (0, opp d))); iexact HR
    iintro HO
    iapply Hk
    isplitr [HO]
    · isplitl [Hst]; · iexact Hst
      isplitl [Hts]; · iexact Hts
      isplitl [Htr]; · iexact Htr
      isplitl [Hc0]; · iexact Hc0
      isplitl [Hc2]; · iexact Hc2
      iempintro
    · iexists W; iexact HO
  · rw [dif_neg h]
    have hd : ¬ Has d c := fun h' => h (hP.mpr h')
    unfold st0 st1 ow
    rw [owedSignals_cons, if_neg hd, show owedReady c d = 0 from if_neg hd, add_zero]
    iintro ⟨-, ⟨⟨Hst, -, Hts, Htr, Hc0, Hc2, Hh⟩, HO⟩, Hk⟩
    iapply Hk
    isplitr [HO]
    · isplitl [Hst]; · iexact Hst
      isplitl [Hts]; · iexact Hts
      isplitl [Htr]; · iexact Htr
      isplitl [Hc0]; · iexact Hc0
      isplitl [Hc2]; · iexact Hc2
      iexact Hh
    · iexact HO

/-! ## The wait for the neighbour, and the copy -/

/-- The rule for one copy at the protocol's cells: `c`'s send slot to the neighbour's landing slot. -/
theorem wp_copy (d : Fin 6) (c : Dev nD) (hd : Has d c) (n : Dev nD) (hn : n = nbr d c)
    {hsc : (hM (opp d) : Memref sig (Dev.tc n : Thread nD τ).2.kind .vmem S32x32 .bf16).view.ref.isScScratch = false}
    {hsrc : (sM d).view.WordExact} {hdst : (hM (opp d)).view.WordExact}
    {hsem : DmaTarget.Typed .vmem (.dma (recvS (opp d))) (.remote (Dev.tc n : Thread nD τ) (hM (opp d)) (.dma (sendS d)) hsc)}
    {α : Type} {Q : α → sProp 𝕄} {k : PUnit → Prog (TpuEff nD τ sig (Elt F) Λ₀ .tc) α} (l : List (Fin 6)) (W : Waits sig Unit) :
    iprop(records m ρ K ∗ holds (sM d) c (face d (xstg m ρ c)) ∗ anyIn (hM (opp d)) (nbr d c)
        ∗ owes (c : Thread nD τ) (owedCopies c l + tallyAt (recvCell (nbr d c) (opp d)) () N) W
        ∗ dutyTok ER (sendCell c d) 0 () ∗ dutyTok ER (recvCell (nbr d c) (opp d)) 0 ())
      ⊢ iprop(((cred (tallyAt (sendCell c d) () N) ∗ owes (c : Thread nD τ) (owedCopies c l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM d) (.remote (Dev.tc n : Thread nD τ) (hM (opp d)) (.dma (sendS d)) hsc) (.dma (recvS (opp d))) hsrc hdst hsem) k) Q) := by
  subst hn
  unfold holds anyIn
  iintro ⟨#HR, ⟨%fs, %hfs, Hs⟩, ⟨%fd, Hd⟩, HO, Hts, Htr⟩ Hk
  iapply (Rounds.wp_send_pointsTo 𝒱₀ ER (haloRd m ρ) (c : Thread nD τ) none (κ₁ := K (c, some (1, d))) (κ₂ := K (nbr d c, some (2, opp d)))
    (r₁ := 0) (r₂ := 0) (d₁ := ()) (d₂ := ()) (fs := fs) (fd := fd) (q := fullShare)
    (mem_live m ρ c (some (1, d)) hd)
    (mem_live m ρ (nbr d c) (some (2, opp d)) (has_nbr hd))
    () () N (credit_hM _) (amount_at m ρ c (some (1, d)) ()) (amount_at m ρ (nbr d c) (some (2, opp d)) ()) (owedCopies c l) rfl (W := W)
    ((holds_intro (sM d) c fs _ hfs).trans (pay_send m ρ c d))
    ((holds_intro (hM (opp d)) (nbr d c) _ _ (by rw [View.read_write_univ, hfs])).trans (pay_recv m ρ c d hd))) $$ [Hs Hd HO Hts Htr]
  · isplitr; · iapply (rec_inv m ρ K c (some (1, d))); iexact HR
    isplitr; · iapply (rec_inv m ρ K (nbr d c) (some (2, opp d))); iexact HR
    isplitl [Hs]; · iexact Hs
    isplitl [Hd]; · iexact Hd
    isplitl [HO]; · iexact HO
    isplitl [Hts]; · iexact Hts
    isplitr; · iapply (rec_reached m ρ K c (some (1, d))); iexact HR
    isplitl [Htr]; · iexact Htr
    iapply (rec_reached m ρ K (nbr d c) (some (2, opp d))); iexact HR
  iexact Hk

/-- The wait for the neighbour's signal and the copy in direction `d`, if the guard `P` holds. -/
def pCopy {α : Type} (d : Fin 6) (P : Prop) [Decidable P] (n : P → Dev nD)
    (hsc : ∀ h, (hM (opp d) : Memref sig (Dev.tc (n h) : Thread nD τ).2.kind .vmem S32x32 .bf16).view.ref.isScScratch = false)
    (hws : (sM d).view.WordExact) (hwd : (hM (opp d)).view.WordExact)
    (hty : ∀ h, DmaTarget.Typed (p := .tc) .vmem (.dma (recvS (opp d))) (.remote (Dev.tc (n h) : Thread nD τ) (hM (opp d)) (.dma (sendS d)) (hsc h)))
    (k : KProg F α) : KProg F α :=
  if h : P then (semWaitWord (readyS d) 1#32 >>= fun _ =>
    Prog.lift (.enqueueDma (sM d) (.remote (Dev.tc (n h) : Thread nD τ) (hM (opp d)) (.dma (sendS d)) (hsc h)) (.dma (recvS (opp d))) hws hwd (hty h)) >>= fun _ => k) else k

/-- The wait for the neighbour's signal, then the copy in direction `d`. -/
theorem step_copy (d : Fin 6) (c : Dev nD) (l : List (Fin 6)) {P : Prop} [Decidable P] (hP : P ↔ Has d c)
    (n : P → Dev nD) (hn : ∀ h, n h = nbr d c)
    {hsc : ∀ h, (hM (opp d) : Memref sig (Dev.tc (n h) : Thread nD τ).2.kind .vmem S32x32 .bf16).view.ref.isScScratch = false}
    {hws : (sM d).view.WordExact} {hwd : (hM (opp d)).view.WordExact}
    {hty : ∀ h, DmaTarget.Typed (p := .tc) .vmem (.dma (recvS (opp d))) (.remote (Dev.tc (n h) : Thread nD τ) (hM (opp d)) (.dma (sendS d)) (hsc h))}
    {α : Type} {Q : α → sProp 𝕄} {k : KProg F α} :
    iprop(records m ρ K ∗ levAts L lv ∗ (st1 d c ∗ holds (sM d) c (face d (xstg m ρ c)) ∗ ow c (owedCopies c (d :: l)))
        ∗ ((st2 m ρ d c ∗ ow c (owedCopies c l)) -∗ wp frame (wpE (defs₀ (F := F)) 𝒱₀ (c : Thread nD τ) none) Set.univ k Q))
      ⊢ wp frame (wpE (defs₀ (F := F)) 𝒱₀ (c : Thread nD τ) none) Set.univ (pCopy d P n hsc hws hwd hty k) Q := by
  unfold pCopy
  by_cases h : P
  · rw [dif_pos h]
    have hd := hP.mp h
    have hn' := hn h
    simp only [semWaitWord, Prog.lift, Prog.bind_op, Prog.bind_ret]
    unfold st1 st2 ow credIf atStart
    rw [peer_has hd, owedCopies_cons, if_pos hd, if_pos hd, if_pos hd, if_pos hd, show owedRecv c d = _ from if_pos hd]
    iintro ⟨#HR, #Hlev, ⟨⟨⟨Ha0, Ha1, Ha2⟩, Hts, Htr, Hc0, Hc2, -⟩, Hs, ⟨%W, HO⟩⟩, Hk⟩
    iapply (Rounds.wp_wait_rest_token 𝒱₀ ER (haloRd m ρ) (c : Thread nD τ) none (κ := K (c, some (0, d)))
        (wpE_semWait_eq 𝒱₀ (c : Thread nD τ) none Set.univ) (Set.mem_univ _) () (O := owedCopies c l + tallyAt (recvCell (nbr d c) (opp d)) () N) (W := W) (R := 0) (m := 0) (T := ∅)
        (by rw [show (haloRd (F := F) m ρ).expect ((c : Thread nD τ), SemLoc.reg (readyS d)) 0 = units (some (0, d)) from expect_live m ρ c (some (0, d)) hd]; rfl)) $$ [Hc0 HO Ha0]
    · isplitr; · iapply (rec_inv m ρ K c (some (0, d))); iexact HR
      isplitl [Hc0]; · iexact Hc0
      isplitl [HO]; · iexact HO
      isplitr
      · rw [show owedCopies c l + tallyAt (recvCell (nbr d c) (opp d)) () N = owedCopies c (d :: l) from by rw [owedCopies_cons, show owedRecv c d = _ from if_pos hd]]
        iapply (mayWait_ready c d (d :: l)); iexact Hlev
      iexact Ha0
    iintro ⟨HO, Ha0, -, Hpay⟩
    ihave Hp := (rest_ready m ρ c d hd) $$ Hpay
    iapply (wp_copy m ρ K d c hd (n h) hn' l (insert (SemLoc.reg (readyS d), ()) W)) $$ [Hs Hp HO Hts Htr]
    · isplitr; · iexact HR
      isplitl [Hs]; · iexact Hs
      isplitl [Hp]; · iexact Hp
      isplitl [HO]; · iexact HO
      isplitl [Hts] <;> iassumption
    iintro ⟨Hcs, HO⟩
    iapply Hk
    isplitr [HO]
    · isplitl [Ha0]; · iexact Ha0
      isplitl [Ha1]; · iexact Ha1
      isplitl [Ha2]; · iexact Ha2
      isplitl [Hc2]; · iexact Hc2
      iexact Hcs
    · iexists _; iexact HO
  · rw [dif_neg h]
    have hd : ¬ Has d c := fun h' => h (hP.mpr h')
    unfold st1 st2 ow idle
    rw [owedCopies_cons, if_neg hd, if_neg hd, show owedRecv c d = 0 from if_neg hd, add_zero]
    iintro ⟨-, -, ⟨⟨Hst, -, -, -, -, Hh⟩, Hs, HO⟩, Hk⟩
    iapply Hk
    isplitr [HO]
    · isplitl [Hst]; · iexact Hst
      isplitl [Hh]; · iexact Hh
      iexact Hs
    · iexact HO

/-! ## The waits for the landing and for the send -/

/-- The wait for the landing from direction `d` and for the own send, if the guard `P` holds. Of the memrefs `aᵢ`, `bᵢ` only
    the size matters. -/
def pDrain {α : Type} (d : Fin 6) (P : Prop) [Decidable P] (a₁ b₁ a₂ b₂ : Memref sig .tc .vmem S32x32 .bf16)
    (h₁ : a₁.view.WordExact) (h₂ : b₁.view.WordExact) (h₃ : a₂.view.WordExact) (h₄ : b₂.view.WordExact) (k : KProg F α) : KProg F α :=
  if h : P then (Prog.lift (.waitDma2 (recvS d) a₁ b₁ h₁ h₂) >>= fun _ => Prog.lift (.waitDma2 (sendS d) a₂ b₂ h₃ h₄) >>= fun _ => k) else k

/-- The wait for the landing from direction `d`, then for `c`'s own send. -/
theorem step_drain (d : Fin 6) (c : Dev nD) {P : Prop} [Decidable P] (hP : P ↔ Has d c)
    {a₁ b₁ a₂ b₂ : Memref sig .tc .vmem S32x32 .bf16} (hb₁ : b₁.view.dmaCredit = N) (hb₂ : b₂.view.dmaCredit = N)
    {h₁ : a₁.view.WordExact} {h₂ : b₁.view.WordExact} {h₃ : a₂.view.WordExact} {h₄ : b₂.view.WordExact}
    {α : Type} {Q : α → sProp 𝕄} {k : KProg F α} :
    iprop(records m ρ K ∗ (st2 m ρ d c ∗ ow c 0)
        ∗ ((st3 m ρ d c ∗ ow c 0) -∗ wp frame (wpE (defs₀ (F := F)) 𝒱₀ (c : Thread nD τ) none) Set.univ k Q))
      ⊢ wp frame (wpE (defs₀ (F := F)) 𝒱₀ (c : Thread nD τ) none) Set.univ (pDrain d P a₁ b₁ a₂ b₂ h₁ h₂ h₃ h₄ k) Q := by
  unfold pDrain
  by_cases h : P
  · rw [dif_pos h]
    have hd := hP.mp h
    simp only [Prog.lift, Prog.bind_op, Prog.bind_ret]
    unfold st2 st3 ow
    rw [if_pos hd, if_pos hd]
    iintro ⟨#HR, ⟨⟨Ha0, Ha1, Ha2, Hc2, Hc1⟩, ⟨%W, HO⟩⟩, Hk⟩
    iapply (Rounds.wp_wait_rest_token 𝒱₀ ER (haloRd m ρ) (c : Thread nD τ) none (κ := K (c, some (2, d)))
        (wpE_waitDma2_eq 𝒱₀ (c : Thread nD τ) none Set.univ) (Set.mem_univ _) () (O := 0) (W := W) (R := 0) (m := 0) (T := ∅)
        (by rw [Nat.zero_add, hb₁, show (haloRd (F := F) m ρ).expect ((c : Thread nD τ), SemLoc.dma (recvS d)) 0 = units (some (2, d)) from expect_live m ρ c (some (2, d)) hd]; rfl)) $$ [Hc2 HO Ha2]
    · isplitr; · iapply (rec_inv m ρ K c (some (2, d))); iexact HR
      isplitl [Hc2]; · rw [hb₁]; iexact Hc2
      isplitl [HO]; · iexact HO
      isplitr; · rw [MayWait_zero]; iempintro
      iexact Ha2
    iintro ⟨HO, Ha2, -, Hpay⟩
    ihave Hh := (rest_recv m ρ c d hd) $$ Hpay
    iapply (Rounds.wp_wait_rest_token 𝒱₀ ER (haloRd m ρ) (c : Thread nD τ) none (κ := K (c, some (1, d)))
        (wpE_waitDma2_eq 𝒱₀ (c : Thread nD τ) none Set.univ) (Set.mem_univ _) () (O := 0) (W := insert (SemLoc.dma (recvS d), ()) W) (R := 0) (m := 0) (T := ∅)
        (by rw [Nat.zero_add, hb₂, show (haloRd (F := F) m ρ).expect ((c : Thread nD τ), SemLoc.dma (sendS d)) 0 = units (some (1, d)) from expect_live m ρ c (some (1, d)) hd]; rfl)) $$ [Hc1 HO Ha1]
    · isplitr; · iapply (rec_inv m ρ K c (some (1, d))); iexact HR
      isplitl [Hc1]; · rw [hb₂]; iexact Hc1
      isplitl [HO]; · iexact HO
      isplitr; · rw [MayWait_zero]; iempintro
      iexact Ha1
    iintro ⟨HO, Ha1, -, Hpay⟩
    ihave Hs := (rest_send m ρ c d hd) $$ Hpay
    iapply Hk
    isplitr [HO]
    · isplitl [Ha0 Ha1 Ha2]
      · isplitl [Ha0]; · iexact Ha0
        isplitl [Ha1]; · iexact Ha1
        iexact Ha2
      isplitl [Hh]; · iexact Hh
      iexact Hs
    · iexists _; iexact HO
  · rw [dif_neg h]
    have hd : ¬ Has d c := fun h' => h (hP.mpr h')
    unfold st2 st3
    rw [if_neg hd, if_neg hd]
    iintro ⟨-, H, Hk⟩
    iapply Hk; iexact H

/-! ## The stores of the faces -/

/-- The store of a face into its send slot (with the load the program makes before it). -/
def pFace {α : Type} (d : Fin 6) (w : S1x32x32.Idx → Elt F .bf16) (hl : (sBuf (axis d)).view.LoadsAt (slotRect d).toLoadRect)
    (hs : ((sBuf (axis d)).access (slotRect d)).Stores Finset.univ) (k : KProg F α) : KProg F α :=
  Prog.lift (.load (sBuf (axis d)) (slotRect d).toLoadRect hl) >>= fun _ =>
    Prog.lift (.store (sBuf (axis d)) (slotRect d) w Finset.univ hs (.inl rfl)) >>= fun _ => k

omit [FloatOps F] in
theorem slot_load_sub (M : Memref sig .tc .vmem S2x32x32 .bf16) (d : Fin 6) : M.view.setOn (slotRect d).toLoadRect.set ⊆ (slot M d).view.set := by
  rw [Memref.set_view_squeeze]
  exact (View.set_slice M.view (slotRect d)).symm.subset
omit [FloatOps F] in
theorem slot_store_sub (M : Memref sig .tc .vmem S2x32x32 .bf16) (d : Fin 6) : (M.access (slotRect d)).setOn Finset.univ ⊆ (slot M d).view.set := by
  rw [Memref.set_view_squeeze]
  exact subset_of_eq rfl

/-- The store of `c`'s face in direction `d`. -/
theorem step_face (d : Fin 6) (c : Dev nD) (w : S1x32x32.Idx → Elt F .bf16) (X : Plane (F := F)) (h : S1x32x32.ShapeCasts S32x32) (hw : shapeCast S32x32 w h = X)
    {hl : (sBuf (axis d)).view.LoadsAt (slotRect d).toLoadRect} {hs : ((sBuf (axis d)).access (slotRect d)).Stores Finset.univ}
    {α : Type} {Q : α → sProp 𝕄} {k : KProg F α} :
    iprop(anyIn (sM d) c ∗ (holds (sM d) c X -∗ wp frame (wpE (defs₀ (F := F)) 𝒱₀ (c : Thread nD τ) none) Set.univ k Q))
      ⊢ wp frame (wpE (defs₀ (F := F)) 𝒱₀ (c : Thread nD τ) none) Set.univ (pFace d w hl hs k) Q := by
  unfold pFace anyIn
  simp only [Prog.lift, Prog.bind_op, Prog.bind_ret]
  iintro ⟨⟨%f, Hs⟩, Hk⟩
  iapply (wp_load 𝒱₀ (c : Thread nD τ) none Set.univ (m := sBuf (axis d)) (slot_load_sub (sBuf (axis d)) d)) $$ [Hs]
  · iexact Hs
  iintro Hs
  iapply (wp_store 𝒱₀ (c : Thread nD τ) none Set.univ (m := sBuf (axis d)) (slot_store_sub (sBuf (axis d)) d)) $$ [Hs]
  · iexact Hs
  iintro Hs
  iapply Hk
  iapply (holds_intro (sM d) c _ X (by rw [slot_written (sBuf (axis d)) d f w h, hw]))
  iexact Hs

/-! ## The result's block -/

/-- Device `c`'s staging buffer for the result holds `o`. -/
def outIs (c : Dev nD) (o : Blk (F := F)) : sProp 𝕄 := iprop(((c : Thread nD τ).loc cc0_stg1_0) ↦{fullShare} o)

/-- A store into the result's buffer. -/
def pPut {α : Type} (r : Rect S32x32x32) (w : r.shape.Idx → Elt F .bf16) (hs : (oM.access r).Stores Finset.univ) (k : KProg F α) : KProg F α :=
  Prog.lift (.store oM r w Finset.univ hs (.inl rfl)) >>= fun _ => k
/-- A store into the result's buffer that rewrites the two rows sharing a word. -/
def pPutSub {α : Type} (r : Rect S32x32x32) (w : (r.shape.Idx → Elt F .bf16) → r.shape.Idx → Elt F .bf16) (hl : oM.view.LoadsAt r.toLoadRect)
    (hs : (oM.access r).Stores Finset.univ) (k : KProg F α) : KProg F α :=
  storeSubelements oM r w hl hs >>= fun _ => k

/-- `T` replaces the result's block `o` by `o'`. -/
def Puts (c : Dev nD) (T : {α : Type} → KProg F α → KProg F α) (o o' : Blk (F := F)) : Prop :=
  ∀ {α : Type} (Q : α → sProp 𝕄) (k : KProg F α),
    iprop(outIs c o ∗ (outIs c o' -∗ wp frame (wpE (defs₀ (F := F)) 𝒱₀ (c : Thread nD τ) none) Set.univ k Q))
      ⊢ wp frame (wpE (defs₀ (F := F)) 𝒱₀ (c : Thread nD τ) none) Set.univ (T k) Q

theorem puts_put (c : Dev nD) (off size : Fin 3 → ℕ) (inb : ∀ a, off a + size a ≤ S32x32x32.size a) (w : (Rect.unit (s := S32x32x32) off size inb).shape.Idx → Elt F .bf16)
    (hs : (oM.access (Rect.unit (s := S32x32x32) off size inb)).Stores Finset.univ) (o o' : Blk (F := F)) (h : VecWindow.put (s := S32x32x32) o off size w = o') :
    Puts c (fun k => pPut (Rect.unit (s := S32x32x32) off size inb) w hs k) o o' := by
  intro α Q k
  unfold pPut outIs
  simp only [Prog.lift, Prog.bind_op, Prog.bind_ret]
  iintro ⟨Ho, Hk⟩
  iapply (wp_store 𝒱₀ (c : Thread nD τ) none Set.univ (m := oM) (S := Finset.univ) (f := o) (Finset.subset_univ _)) $$ [Ho]
  · iexact Ho
  iintro Ho
  iapply Hk
  rw [write_put, h]
  iexact Ho

theorem puts_putSub (c : Dev nD) (off size start u : Fin 3 → ℕ) (inb : ∀ a, off a + size a ≤ S32x32x32.size a) (w : (⟨3, u⟩ : Shape).Idx → Elt F .bf16)
    (hsl : (⟨3, size⟩ : Shape).Slices start ⟨3, u⟩) (hl : oM.view.LoadsAt (Rect.unit (s := S32x32x32) off size inb).toLoadRect)
    (hs : (oM.access (Rect.unit (s := S32x32x32) off size inb)).Stores Finset.univ) (o o' : Blk (F := F))
    (h : VecWindow.put (s := S32x32x32) o (fun a => off a + start a) u w = o') :
    Puts c (fun k => pPutSub (Rect.unit (s := S32x32x32) off size inb) (fun old => updateSlice (s := ⟨3, size⟩) (u := ⟨3, u⟩) old w start hsl) hl hs k) o o' := by
  intro α Q k
  unfold pPutSub outIs storeSubelements
  simp only [Prog.bind_op, Prog.bind_ret]
  iintro ⟨Ho, Hk⟩
  iapply (wp_load 𝒱₀ (c : Thread nD τ) none Set.univ (m := oM) (S := Finset.univ) (f := o) (Finset.subset_univ _)) $$ [Ho]
  · iexact Ho
  iintro Ho
  iapply (wp_store 𝒱₀ (c : Thread nD τ) none Set.univ (m := oM) (S := Finset.univ) (f := o) (Finset.subset_univ _)) $$ [Ho]
  · iexact Ho
  iintro Ho
  iapply Hk
  rw [write_put, read_window, put_update, h]
  iexact Ho

/-! ## The halo additions and the zeroings -/

/-- What landed from direction `d`, added where there is a neighbour. -/
def addIf (d : Fin 6) (c : Dev nD) (o : Blk (F := F)) : Blk (F := F) := if Has d c then addFace d (landed m ρ d c) o else o
/-- The outermost plane zeroed where there is none. -/
def zeroIf (d : Fin 6) (c : Dev nD) (o : Blk (F := F)) : Blk (F := F) := if Has d c then o else zeroFace d o

/-- The addition of what landed, if the guard `P` holds: two loads of the plane, one of the landing slot, the store. -/
def pAdd {α : Type} (d : Fin 6) (P : Prop) [Decidable P] (r : Rect S32x32x32) (hl : oM.view.LoadsAt r.toLoadRect)
    (hh : (hBuf (axis d)).view.LoadsAt (slotRect d).toLoadRect) (T : (r.shape.Idx → Elt F .bf16) → (S1x32x32.Idx → Elt F .bf16) → KProg F α → KProg F α)
    (k : KProg F α) : KProg F α :=
  if h : P then (Prog.lift (.load oM r.toLoadRect hl) >>= fun v => Prog.lift (.load (hBuf (axis d)) (slotRect d).toLoadRect hh) >>= fun w =>
    Prog.lift (.load oM r.toLoadRect hl) >>= fun _ => T v w k) else k

/-- The halo addition in direction `d`. -/
theorem step_add (d : Fin 6) (c : Dev nD) {P : Prop} [Decidable P] (hP : P ↔ Has d c) (off size : Fin 3 → ℕ) (inb : ∀ a, off a + size a ≤ S32x32x32.size a)
    {hl : oM.view.LoadsAt (Rect.unit (s := S32x32x32) off size inb).toLoadRect} {hh : (hBuf (axis d)).view.LoadsAt (slotRect d).toLoadRect}
    (T : {α : Type} → ((Rect.unit (s := S32x32x32) off size inb).shape.Idx → Elt F .bf16) → (S1x32x32.Idx → Elt F .bf16) → KProg F α → KProg F α) (o : Blk (F := F))
    (hT : ∀ f : Halo (F := F) d, Puts c (fun k => T (VecWindow.window o off size inb) (slotRead d f) k) o (addFace d ((hM d).view.read (Elt F) f) o))
    {α : Type} {Q : α → sProp 𝕄} {k : KProg F α} :
    iprop(st3 m ρ d c ∗ outIs c o ∗ ((st3 m ρ d c ∗ outIs c (addIf m ρ d c o)) -∗ wp frame (wpE (defs₀ (F := F)) 𝒱₀ (c : Thread nD τ) none) Set.univ k Q))
      ⊢ wp frame (wpE (defs₀ (F := F)) 𝒱₀ (c : Thread nD τ) none) Set.univ (pAdd d P (Rect.unit (s := S32x32x32) off size inb) hl hh T k) Q := by
  unfold pAdd addIf
  by_cases h : P
  · rw [dif_pos h]
    have hd := hP.mp h
    simp only [Prog.lift, Prog.bind_op, Prog.bind_ret]
    unfold st3 holds
    rw [if_pos hd, if_pos hd]
    iintro ⟨⟨Ha, ⟨%f, %hf, Hh⟩, Hs⟩, Ho, Hk⟩
    unfold outIs
    iapply (wp_load 𝒱₀ (c : Thread nD τ) none Set.univ (m := oM) (S := Finset.univ) (f := o) (Finset.subset_univ _)) $$ [Ho]
    · iexact Ho
    iintro Ho
    iapply (wp_load 𝒱₀ (c : Thread nD τ) none Set.univ (m := hBuf (axis d)) (slot_load_sub (hBuf (axis d)) d)) $$ [Hh]
    · iexact Hh
    iintro Hh
    iapply (wp_load 𝒱₀ (c : Thread nD τ) none Set.univ (m := oM) (S := Finset.univ) (f := o) (Finset.subset_univ _)) $$ [Ho]
    · iexact Ho
    iintro Ho
    iapply (hT f Q k)
    unfold outIs
    isplitl [Ho]; · iexact Ho
    iintro Ho
    iapply Hk
    rw [hf]
    isplitr [Ho]
    · isplitl [Ha]; · iexact Ha
      isplitl [Hh]
      · iexists f; isplitr; · (ipureintro; exact hf)
        iexact Hh
      iexact Hs
    iexact Ho
  · rw [dif_neg h, if_neg fun h' => h (hP.mpr h')]
    iintro ⟨Hst, Ho, Hk⟩
    iapply Hk
    isplitl [Hst] <;> iassumption

/-- The zeroing, if the guard `P` holds: a load of the plane and the store. -/
def pZero {α : Type} (P : Prop) [Decidable P] (r : Rect S32x32x32) (hl : oM.view.LoadsAt r.toLoadRect) (T : KProg F α → KProg F α) (k : KProg F α) : KProg F α :=
  if h : P then (Prog.lift (.load oM r.toLoadRect hl) >>= fun _ => T k) else k

/-- The zeroing in direction `d`. -/
theorem step_zero (d : Fin 6) (c : Dev nD) {P : Prop} [Decidable P] (hP : P ↔ ¬ Has d c) {r : Rect S32x32x32} {hl : oM.view.LoadsAt r.toLoadRect}
    (T : {α : Type} → KProg F α → KProg F α) (o : Blk (F := F)) (hT : Puts c T o (zeroFace d o))
    {α : Type} {Q : α → sProp 𝕄} {k : KProg F α} :
    iprop(outIs c o ∗ (outIs c (zeroIf d c o) -∗ wp frame (wpE (defs₀ (F := F)) 𝒱₀ (c : Thread nD τ) none) Set.univ k Q))
      ⊢ wp frame (wpE (defs₀ (F := F)) 𝒱₀ (c : Thread nD τ) none) Set.univ (pZero P r hl T k) Q := by
  unfold pZero zeroIf
  by_cases h : P
  · rw [dif_pos h, if_neg (hP.mp h)]
    simp only [Prog.lift, Prog.bind_op, Prog.bind_ret]
    iintro ⟨Ho, Hk⟩
    unfold outIs
    iapply (wp_load 𝒱₀ (c : Thread nD τ) none Set.univ (m := oM) (S := Finset.univ) (f := o) (Finset.subset_univ _)) $$ [Ho]
    · iexact Ho
    iintro Ho
    iapply (hT Q k)
    unfold outIs
    isplitl [Ho]; · iexact Ho
    iexact Hk
  · rw [dif_neg h, if_pos (by by_contra h'; exact h (hP.mpr h'))]
    iintro ⟨Ho, Hk⟩
    iapply Hk
    iexact Ho

end Cert.Halo

end

end
-- ==== Proof.Parts.lean ====
/-
# The body's five parts as chains of the protocol's statements

The kernel's body comes in five parts and a tail. Each theorem says that a part, at the buffers and semaphores the launch
gives it, is the chain of the statements the steps treat: the barrier and the signals; the faces; the copies; the base
stencil and the waits; the halo additions and the zeroings.
-/
module

public import proofs.«01_k».proof.Proof.Steps

@[expose] public section

set_option maxRecDepth 65536

noncomputable section

namespace Cert.Halo

open Cert.KernelIdeal Cert.KernelIdeal.Gen

open Idealize.ShloMosaic
open Idealize.ShloMosaic.TcCoe
open Idealize.SL Idealize.SL.Sem

variable {F : FTy → Type} [FloatOps F]

/-- The input's staging buffer. -/
abbrev iM : Memref sig .tc .vmem S32x32x32 .bf16 := Memref.whole cc0_stg0_0

/-! ## Side conditions of the slots -/

theorem wordsS (d : Fin 6) : (sM d).view.WordExact := by
  fin_cases d
  · exact ((Memref.isWhole_whole _).wordExact_slice rfl _ wordsbf16_S2x32x32_S1x32x32_0_0_0).reshape _ _
  · exact ((Memref.isWhole_whole _).wordExact_slice rfl _ wordsbf16_S2x32x32_S1x32x32_1_0_0).reshape _ _
  · exact ((Memref.isWhole_whole _).wordExact_slice rfl _ wordsbf16_S2x32x32_S1x32x32_0_0_0).reshape _ _
  · exact ((Memref.isWhole_whole _).wordExact_slice rfl _ wordsbf16_S2x32x32_S1x32x32_1_0_0).reshape _ _
  · exact ((Memref.isWhole_whole _).wordExact_slice rfl _ wordsbf16_S2x32x32_S1x32x32_0_0_0).reshape _ _
  · exact ((Memref.isWhole_whole _).wordExact_slice rfl _ wordsbf16_S2x32x32_S1x32x32_1_0_0).reshape _ _
theorem wordsH (d : Fin 6) : (hM d).view.WordExact := by
  fin_cases d
  · exact ((Memref.isWhole_whole _).wordExact_slice rfl _ wordsbf16_S2x32x32_S1x32x32_0_0_0).reshape _ _
  · exact ((Memref.isWhole_whole _).wordExact_slice rfl _ wordsbf16_S2x32x32_S1x32x32_1_0_0).reshape _ _
  · exact ((Memref.isWhole_whole _).wordExact_slice rfl _ wordsbf16_S2x32x32_S1x32x32_0_0_0).reshape _ _
  · exact ((Memref.isWhole_whole _).wordExact_slice rfl _ wordsbf16_S2x32x32_S1x32x32_1_0_0).reshape _ _
  · exact ((Memref.isWhole_whole _).wordExact_slice rfl _ wordsbf16_S2x32x32_S1x32x32_0_0_0).reshape _ _
  · exact ((Memref.isWhole_whole _).wordExact_slice rfl _ wordsbf16_S2x32x32_S1x32x32_1_0_0).reshape _ _
theorem loadsS (d : Fin 6) : (sBuf (axis d)).view.LoadsAt (slotRect d).toLoadRect := by
  fin_cases d <;> exact View.loadsAt_vmem h_S1x32x32
theorem loadsH (d : Fin 6) : (hBuf (axis d)).view.LoadsAt (slotRect d).toLoadRect := by
  fin_cases d <;> exact View.loadsAt_vmem h_S1x32x32
theorem storesS (d : Fin 6) : ((sBuf (axis d)).access (slotRect d)).Stores Finset.univ := by
  fin_cases d
  · exact View.stores_vmem h_S1x32x32 ((Memref.isWhole_whole _).storeExact_slice rfl _ packedbf16_S2x32x32_S1x32x32_0_0_0) (fun _ => rfl)
  · exact View.stores_vmem h_S1x32x32 ((Memref.isWhole_whole _).storeExact_slice rfl _ packedbf16_S2x32x32_S1x32x32_1_0_0) (fun _ => rfl)
  · exact View.stores_vmem h_S1x32x32 ((Memref.isWhole_whole _).storeExact_slice rfl _ packedbf16_S2x32x32_S1x32x32_0_0_0) (fun _ => rfl)
  · exact View.stores_vmem h_S1x32x32 ((Memref.isWhole_whole _).storeExact_slice rfl _ packedbf16_S2x32x32_S1x32x32_1_0_0) (fun _ => rfl)
  · exact View.stores_vmem h_S1x32x32 ((Memref.isWhole_whole _).storeExact_slice rfl _ packedbf16_S2x32x32_S1x32x32_0_0_0) (fun _ => rfl)
  · exact View.stores_vmem h_S1x32x32 ((Memref.isWhole_whole _).storeExact_slice rfl _ packedbf16_S2x32x32_S1x32x32_1_0_0) (fun _ => rfl)
theorem plainH (d : Fin 6) : (hM d).view.ref.isScScratch = false := by fin_cases d <;> rfl
theorem typedH (d : Fin 6) (n : Dev nD) (h : (hM (opp d) : Memref sig (Dev.tc n : Thread nD τ).2.kind .vmem S32x32 .bf16).view.ref.isScScratch = false) :
    DmaTarget.Typed (p := .tc) .vmem (.dma (recvS (opp d))) (.remote (Dev.tc n : Thread nD τ) (hM (opp d)) (.dma (sendS d)) h) := ⟨⟨rfl, Or.inl rfl⟩, trivial⟩

/-- A direction's copy, with its side conditions. -/
abbrev qCopy {α : Type} (d : Fin 6) (P : Prop) [Decidable P] (n : P → Dev nD) (k : KProg F α) : KProg F α :=
  pCopy d P n (fun _ => plainH (opp d)) (wordsS d) (wordsH (opp d)) (fun h => typedH d (n h) _) k
/-- A direction's waits, with the memrefs the program names. -/
abbrev qDrain {α : Type} (d : Fin 6) (P : Prop) [Decidable P] (k : KProg F α) : KProg F α :=
  pDrain d P (sM d) (hM d) (hM (opp d)) (sM d) (wordsS d) (wordsH d) (wordsH (opp d)) (wordsS d) k
/-- A direction's face store, with its side conditions. -/
abbrev qFace {α : Type} (d : Fin 6) (w : S1x32x32.Idx → Elt F .bf16) (k : KProg F α) : KProg F α := pFace d w (loadsS d) (storesS d) k
/-- The device's signal to itself and the wait for it. -/
def pBar {α : Type} (k : KProg F α) : KProg F α := semSignalHereWord barS 1#32 >>= fun _ => semWaitWord barS 1#32 >>= fun _ => k

/-! ## A device's coordinates, as the program computes them -/

abbrev cX (c : Dev nD) : BitVec 32 := Scalar.remsi (Scalar.divsi (Dev.word c) 16#32) 2#32
abbrev cY (c : Dev nD) : BitVec 32 := Scalar.remsi (Scalar.divsi (Dev.word c) 4#32) 4#32
abbrev cZ (c : Dev nD) : BitVec 32 := Scalar.remsi (Scalar.divsi (Dev.word c) 1#32) 4#32
/-- A truth value as the program tests it. -/
abbrev test (b : BitVec 1) : BitVec 1 := Scalar.cmpi .ne (Scalar.extui b) 0#32

/-! ## The parts -/

/-- The first part: the barrier, and the signals across the first axis and down the second. -/
theorem part1_eq : k0_part1 (F := F) iM (Memref.isWhole_whole _) oM (Memref.isWhole_whole _) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6 cc0_scratch7 cc0_scratch8
    = (Prog.lift .deviceId >>= fun d0 => pBar <| pSignal 0 (k0_cond1 d0 = 1#1) (fun h => ⟨k0_dev1 d0, k0_dev1_lt d0 h⟩) <| pSignal 1 (k0_cond2 d0 = 1#1) (fun h => ⟨k0_dev2 d0, k0_dev2_lt d0 h⟩) <| pSignal 2 (k0_cond3 d0 = 1#1) (fun h => ⟨k0_dev3 d0, k0_dev3_lt d0 h⟩) <|
        pure ⟨d0, cX d0, cY d0, cZ d0, Scalar.cmpi .sgt (cX d0) 0#32, Scalar.subi (cX d0) 1#32, Scalar.cmpi .slt (cX d0) 1#32, Scalar.addi (cX d0) 1#32,
          Scalar.cmpi .sgt (cY d0) 0#32, Scalar.subi (cY d0) 1#32, Scalar.cmpi .slt (cY d0) 3#32, Scalar.addi (cY d0) 1#32,
          Scalar.cmpi .sgt (cZ d0) 0#32, Scalar.subi (cZ d0) 1#32, Scalar.cmpi .slt (cZ d0) 3#32, Scalar.addi (cZ d0) 1#32,
          Scalar.extui (Scalar.cmpi .slt (cY d0) 3#32), 0#32⟩) := rfl

/-- The second part: the other signals, and five faces. -/
theorem part2_eq (d0 : Dev nD) (v2 v5 v8 v16 : BitVec 32) (v17 : BitVec 1) (v18 : BitVec 32) (v19 : BitVec 1) (v20 v28 w : BitVec 32) :
    k0_part2 (F := F) iM (Memref.isWhole_whole _) oM (Memref.isWhole_whole _) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6 cc0_scratch7 cc0_scratch8 d0 v2 v5 v8 v16 v17 v18 v19 v20 v28 w
    = (pSignal 3 (k0_cond4 d0 = 1#1) (fun h => ⟨k0_dev4 d0, k0_dev4_lt d0 h⟩) <| pSignal 4 (k0_cond5 d0 = 1#1) (fun h => ⟨k0_dev5 d0, k0_dev5_lt d0 h⟩) <| pSignal 5 (k0_cond6 d0 = 1#1) (fun h => ⟨k0_dev6 d0, k0_dev6_lt d0 h⟩) <|
        Prog.lift (.load iM (Rect.unit (s := S32x32x32) ![0, 0, 0] S32x32x32.size inb_S32x32x32_S32x32x32_0_0_0).toLoadRect (View.loadsAt_vmem h_S32x32x32)) >>= fun v34 =>
        qFace 0 (k0_pay4 v34) <| qFace 1 (k0_pay5 v34) <| qFace 2 (k0_pay6 v34) <| qFace 3 (k0_pay7 v34) <| qFace 4 (k0_pay8 v34) <|
        pure ⟨k0_pay3 v34, k0_pay9 v34⟩) := rfl

/-- The third part: the last face, and the copies. -/
theorem part3_eq (d0 : Dev nD) (v2 v5 v8 : BitVec 32) (v9 : BitVec 1) (v10 : BitVec 32) (v11 : BitVec 1) (v12 : BitVec 32) (v13 : BitVec 1) (v14 : BitVec 32)
    (v15 : BitVec 1) (v16 : BitVec 32) (v17 : BitVec 1) (v18 : BitVec 32) (v19 : BitVec 1) (v20 : BitVec 32) (v35 : FVec F S32x32x32 .bf16) (v60 : FVec F S1x32x32 .bf16) :
    k0_part3 (F := F) iM (Memref.isWhole_whole _) oM (Memref.isWhole_whole _) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6 cc0_scratch7 cc0_scratch8 d0 v2 v5 v8 v9 v10 v11 v12 v13 v14 v15 v16 v17 v18 v19 v20 v35 v60
    = (qFace 5 (k0_pay10 v60) <| qCopy 0 (k0_cond7 d0 = 1#1) (fun h => ⟨k0_dev7 d0, k0_dev7_lt d0 h⟩) <| qCopy 1 (k0_cond8 d0 = 1#1) (fun h => ⟨k0_dev8 d0, k0_dev8_lt d0 h⟩) <|
        qCopy 2 (k0_cond9 d0 = 1#1) (fun h => ⟨k0_dev9 d0, k0_dev9_lt d0 h⟩) <| qCopy 3 (k0_cond10 d0 = 1#1) (fun h => ⟨k0_dev10 d0, k0_dev10_lt d0 h⟩) <|
        qCopy 4 (k0_cond11 d0 = 1#1) (fun h => ⟨k0_dev11 d0, k0_dev11_lt d0 h⟩) <| qCopy 5 (k0_cond12 d0 = 1#1) (fun h => ⟨k0_dev12 d0, k0_dev12_lt d0 h⟩) <|
        pure ⟨k0_pay11 (F := F), k0_pay12 v35⟩) := rfl

/-- The fourth part: the base stencil is stored; then the waits. -/
theorem part4_eq (v2 v5 v8 : BitVec 32) (v9 : BitVec 1) (v10 : BitVec 32) (v11 : BitVec 1) (v12 : BitVec 32) (v13 : BitVec 1) (v14 : BitVec 32)
    (v15 : BitVec 1) (v16 : BitVec 32) (v17 : BitVec 1) (v18 : BitVec 32) (v19 : BitVec 1) (v20 : BitVec 32) (v35 : FVec F S32x32x32 .bf16) (v78 : FVec F S32x32x1 .bf16)
    (v89 : FVec F S32x32x32 .bf16) :
    k0_part4 (F := F) iM (Memref.isWhole_whole _) oM (Memref.isWhole_whole _) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6 cc0_scratch7 cc0_scratch8 v2 v5 v8 v9 v10 v11 v12 v13 v14 v15 v16 v17 v18 v19 v20 v35 v78 v89
    = (Prog.lift (.load oM (Rect.unit (s := S32x32x32) ![0, 0, 0] S32x32x32.size inb_S32x32x32_S32x32x32_0_0_0).toLoadRect (View.loadsAt_vmem h_S32x32x32)) >>= fun _ =>
        pPut (Rect.unit (s := S32x32x32) ![0, 0, 0] S32x32x32.size inb_S32x32x32_S32x32x32_0_0_0) (k0_pay13 v35 v78 v89)
          (View.stores_vmem h_S32x32x32 ((Memref.isWhole_whole _).storeExact_slice rfl _ packedbf16_S32x32x32_S32x32x32_0_0_0) (fun _ => rfl)) <|
        qDrain 0 (test v9 = 1#1) <| qDrain 1 (test v11 = 1#1) <| qDrain 2 (test v13 = 1#1) <| qDrain 3 (test v15 = 1#1) <|
        qDrain 4 (test v17 = 1#1) <| qDrain 5 (test v19 = 1#1) <| pure (Scalar.extui (Scalar.cmpi .sgt v2 0#32))) := rfl

/-! ## The statements on the result's block, direction by direction -/

/-- The store of a sum onto the outermost plane in direction 0. -/
def tAdd0 {α : Type} (v : (Rect.unit (s := S32x32x32) ![0, 0, 0] S1x32x32.size inb_S32x32x32_S1x32x32_0_0_0).shape.Idx → Elt F .bf16) (w : S1x32x32.Idx → Elt F .bf16) (k : KProg F α) : KProg F α :=
  pPut (Rect.unit (s := S32x32x32) ![0, 0, 0] S1x32x32.size inb_S32x32x32_S1x32x32_0_0_0) (k0_pay14 v w) (View.stores_vmem h_S1x32x32 ((Memref.isWhole_whole _).storeExact_slice rfl _ packedbf16_S32x32x32_S1x32x32_0_0_0) (fun _ => rfl)) k
/-- The store of zeros onto it. -/
def tZero0 {α : Type} (k : KProg F α) : KProg F α :=
  pPut (Rect.unit (s := S32x32x32) ![0, 0, 0] S1x32x32.size inb_S32x32x32_S1x32x32_0_0_0) (k0_pay20 (F := F)) (View.stores_vmem h_S1x32x32 ((Memref.isWhole_whole _).storeExact_slice rfl _ packedbf16_S32x32x32_S1x32x32_0_0_0) (fun _ => rfl)) k

/-- The store of a sum onto the outermost plane in direction 1. -/
def tAdd1 {α : Type} (v : (Rect.unit (s := S32x32x32) ![31, 0, 0] S1x32x32.size inb_S32x32x32_S1x32x32_31_0_0).shape.Idx → Elt F .bf16) (w : S1x32x32.Idx → Elt F .bf16) (k : KProg F α) : KProg F α :=
  pPut (Rect.unit (s := S32x32x32) ![31, 0, 0] S1x32x32.size inb_S32x32x32_S1x32x32_31_0_0) (k0_pay15 v w) (View.stores_vmem h_S1x32x32 ((Memref.isWhole_whole _).storeExact_slice rfl _ packedbf16_S32x32x32_S1x32x32_31_0_0) (fun _ => rfl)) k
/-- The store of zeros onto it. -/
def tZero1 {α : Type} (k : KProg F α) : KProg F α :=
  pPut (Rect.unit (s := S32x32x32) ![31, 0, 0] S1x32x32.size inb_S32x32x32_S1x32x32_31_0_0) (k0_pay21 (F := F)) (View.stores_vmem h_S1x32x32 ((Memref.isWhole_whole _).storeExact_slice rfl _ packedbf16_S32x32x32_S1x32x32_31_0_0) (fun _ => rfl)) k

/-- The store of a sum onto the outermost plane in direction 2. -/
def tAdd2 {α : Type} (v : (Rect.unit (s := S32x32x32) ![0, 0, 0] S32x1x32.size inb_S32x32x32_S32x1x32_0_0_0).shape.Idx → Elt F .bf16) (w : S1x32x32.Idx → Elt F .bf16) (k : KProg F α) : KProg F α :=
  pPutSub (Rect.unit (s := S32x32x32) ![0, 0, 0] S32x2x32.size inb_S32x32x32_S32x2x32_0_0_0) (fun old => updateSlice old (k0_pay16 v w) ![0, 0, 0] slices_S32x2x32_S32x1x32_0_0_0) (View.loadsAt_vmem h_S32x2x32) (View.stores_vmem h_S32x2x32 ((Memref.isWhole_whole _).storeExact_slice rfl _ packedbf16_S32x32x32_S32x2x32_0_0_0) (fun _ => rfl)) k
/-- The store of zeros onto it. -/
def tZero2 {α : Type} (k : KProg F α) : KProg F α :=
  pPutSub (Rect.unit (s := S32x32x32) ![0, 0, 0] S32x2x32.size inb_S32x32x32_S32x2x32_0_0_0) (fun old => updateSlice old (k0_pay22 (F := F)) ![0, 0, 0] slices_S32x2x32_S32x1x32_0_0_0) (View.loadsAt_vmem h_S32x2x32) (View.stores_vmem h_S32x2x32 ((Memref.isWhole_whole _).storeExact_slice rfl _ packedbf16_S32x32x32_S32x2x32_0_0_0) (fun _ => rfl)) k

/-- The store of a sum onto the outermost plane in direction 3. -/
def tAdd3 {α : Type} (v : (Rect.unit (s := S32x32x32) ![0, 31, 0] S32x1x32.size inb_S32x32x32_S32x1x32_0_31_0).shape.Idx → Elt F .bf16) (w : S1x32x32.Idx → Elt F .bf16) (k : KProg F α) : KProg F α :=
  pPutSub (Rect.unit (s := S32x32x32) ![0, 30, 0] S32x2x32.size inb_S32x32x32_S32x2x32_0_30_0) (fun old => updateSlice old (k0_pay17 v w) ![0, 1, 0] slices_S32x2x32_S32x1x32_0_1_0) (View.loadsAt_vmem h_S32x2x32) (View.stores_vmem h_S32x2x32 ((Memref.isWhole_whole _).storeExact_slice rfl _ packedbf16_S32x32x32_S32x2x32_0_30_0) (fun _ => rfl)) k
/-- The store of zeros onto it. -/
def tZero3 {α : Type} (k : KProg F α) : KProg F α :=
  pPutSub (Rect.unit (s := S32x32x32) ![0, 30, 0] S32x2x32.size inb_S32x32x32_S32x2x32_0_30_0) (fun old => updateSlice old (k0_pay23 (F := F)) ![0, 1, 0] slices_S32x2x32_S32x1x32_0_1_0) (View.loadsAt_vmem h_S32x2x32) (View.stores_vmem h_S32x2x32 ((Memref.isWhole_whole _).storeExact_slice rfl _ packedbf16_S32x32x32_S32x2x32_0_30_0) (fun _ => rfl)) k

/-- The store of a sum onto the outermost plane in direction 4. -/
def tAdd4 {α : Type} (v : (Rect.unit (s := S32x32x32) ![0, 0, 0] S32x32x1.size inb_S32x32x32_S32x32x1_0_0_0).shape.Idx → Elt F .bf16) (w : S1x32x32.Idx → Elt F .bf16) (k : KProg F α) : KProg F α :=
  pPut (Rect.unit (s := S32x32x32) ![0, 0, 0] S32x32x1.size inb_S32x32x32_S32x32x1_0_0_0) (k0_pay18 v w) (View.stores_vmem h_S32x32x1 ((Memref.isWhole_whole _).storeExact_slice rfl _ packedbf16_S32x32x32_S32x32x1_0_0_0) (fun _ => rfl)) k
/-- The store of zeros onto it. -/
def tZero4 {α : Type} (k : KProg F α) : KProg F α :=
  pPut (Rect.unit (s := S32x32x32) ![0, 0, 0] S32x32x1.size inb_S32x32x32_S32x32x1_0_0_0) (k0_pay1 (F := F)) (View.stores_vmem h_S32x32x1 ((Memref.isWhole_whole _).storeExact_slice rfl _ packedbf16_S32x32x32_S32x32x1_0_0_0) (fun _ => rfl)) k

/-- The store of a sum onto the outermost plane in direction 5. -/
def tAdd5 {α : Type} (v : (Rect.unit (s := S32x32x32) ![0, 0, 31] S32x32x1.size inb_S32x32x32_S32x32x1_0_0_31).shape.Idx → Elt F .bf16) (w : S1x32x32.Idx → Elt F .bf16) (k : KProg F α) : KProg F α :=
  pPut (Rect.unit (s := S32x32x32) ![0, 0, 31] S32x32x1.size inb_S32x32x32_S32x32x1_0_0_31) (k0_pay19 v w) (View.stores_vmem h_S32x32x1 ((Memref.isWhole_whole _).storeExact_slice rfl _ packedbf16_S32x32x32_S32x32x1_0_0_31) (fun _ => rfl)) k
/-- The store of zeros onto it. -/
def tZero5 {α : Type} (k : KProg F α) : KProg F α :=
  pPut (Rect.unit (s := S32x32x32) ![0, 0, 31] S32x32x1.size inb_S32x32x32_S32x32x1_0_0_31) (k0_pay2 (F := F)) (View.stores_vmem h_S32x32x1 ((Memref.isWhole_whole _).storeExact_slice rfl _ packedbf16_S32x32x32_S32x32x1_0_0_31) (fun _ => rfl)) k

/-- A direction's halo addition, at the tested guard `b`. -/
abbrev qAdd0 {α : Type} (b : BitVec 1) (k : KProg F α) : KProg F α := pAdd 0 (b = 1#1) (Rect.unit (s := S32x32x32) ![0, 0, 0] S1x32x32.size inb_S32x32x32_S1x32x32_0_0_0) (View.loadsAt_vmem h_S1x32x32) (loadsH 0) tAdd0 k
abbrev qZero0 {α : Type} (b : BitVec 1) (k : KProg F α) : KProg F α := pZero (b = 1#1) (Rect.unit (s := S32x32x32) ![0, 0, 0] S1x32x32.size inb_S32x32x32_S1x32x32_0_0_0) (View.loadsAt_vmem h_S1x32x32) tZero0 k
abbrev qAdd1 {α : Type} (b : BitVec 1) (k : KProg F α) : KProg F α := pAdd 1 (b = 1#1) (Rect.unit (s := S32x32x32) ![31, 0, 0] S1x32x32.size inb_S32x32x32_S1x32x32_31_0_0) (View.loadsAt_vmem h_S1x32x32) (loadsH 1) tAdd1 k
abbrev qZero1 {α : Type} (b : BitVec 1) (k : KProg F α) : KProg F α := pZero (b = 1#1) (Rect.unit (s := S32x32x32) ![31, 0, 0] S1x32x32.size inb_S32x32x32_S1x32x32_31_0_0) (View.loadsAt_vmem h_S1x32x32) tZero1 k
abbrev qAdd2 {α : Type} (b : BitVec 1) (k : KProg F α) : KProg F α := pAdd 2 (b = 1#1) (Rect.unit (s := S32x32x32) ![0, 0, 0] S32x1x32.size inb_S32x32x32_S32x1x32_0_0_0) (View.loadsAt_vmem h_S32x1x32) (loadsH 2) tAdd2 k
abbrev qZero2 {α : Type} (b : BitVec 1) (k : KProg F α) : KProg F α := pZero (b = 1#1) (Rect.unit (s := S32x32x32) ![0, 0, 0] S32x1x32.size inb_S32x32x32_S32x1x32_0_0_0) (View.loadsAt_vmem h_S32x1x32) tZero2 k
abbrev qAdd3 {α : Type} (b : BitVec 1) (k : KProg F α) : KProg F α := pAdd 3 (b = 1#1) (Rect.unit (s := S32x32x32) ![0, 31, 0] S32x1x32.size inb_S32x32x32_S32x1x32_0_31_0) (View.loadsAt_vmem h_S32x1x32) (loadsH 3) tAdd3 k
abbrev qZero3 {α : Type} (b : BitVec 1) (k : KProg F α) : KProg F α := pZero (b = 1#1) (Rect.unit (s := S32x32x32) ![0, 31, 0] S32x1x32.size inb_S32x32x32_S32x1x32_0_31_0) (View.loadsAt_vmem h_S32x1x32) tZero3 k
abbrev qAdd4 {α : Type} (b : BitVec 1) (k : KProg F α) : KProg F α := pAdd 4 (b = 1#1) (Rect.unit (s := S32x32x32) ![0, 0, 0] S32x32x1.size inb_S32x32x32_S32x32x1_0_0_0) (View.loadsAt_vmem h_S32x32x1) (loadsH 4) tAdd4 k
abbrev qZero4 {α : Type} (b : BitVec 1) (k : KProg F α) : KProg F α := pZero (b = 1#1) (Rect.unit (s := S32x32x32) ![0, 0, 0] S32x32x1.size inb_S32x32x32_S32x32x1_0_0_0) (View.loadsAt_vmem h_S32x32x1) tZero4 k
abbrev qAdd5 {α : Type} (b : BitVec 1) (k : KProg F α) : KProg F α := pAdd 5 (b = 1#1) (Rect.unit (s := S32x32x32) ![0, 0, 31] S32x32x1.size inb_S32x32x32_S32x32x1_0_0_31) (View.loadsAt_vmem h_S32x32x1) (loadsH 5) tAdd5 k
abbrev qZero5 {α : Type} (b : BitVec 1) (k : KProg F α) : KProg F α := pZero (b = 1#1) (Rect.unit (s := S32x32x32) ![0, 0, 31] S32x32x1.size inb_S32x32x32_S32x32x1_0_0_31) (View.loadsAt_vmem h_S32x32x1) tZero5 k

/-- The fifth part: the halo additions, and the zeroings of the first two axes. -/
theorem part5_eq (v2 v5 v8 v113 : BitVec 32) :
    k0_part5 (F := F) iM (Memref.isWhole_whole _) oM (Memref.isWhole_whole _) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6 cc0_scratch7 cc0_scratch8 v2 v5 v8 v113
    = (qAdd0 (Scalar.cmpi .ne v113 0#32) <| qAdd1 (test (Scalar.cmpi .slt v2 1#32)) <| qAdd2 (test (Scalar.cmpi .sgt v5 0#32)) <| qAdd3 (test (Scalar.cmpi .slt v5 3#32)) <| qAdd4 (test (Scalar.cmpi .sgt v8 0#32)) <| qAdd5 (test (Scalar.cmpi .slt v8 3#32)) <| qZero0 (test (Scalar.cmpi .eq v2 0#32)) <| qZero1 (test (Scalar.cmpi .eq v2 1#32)) <| qZero2 (test (Scalar.cmpi .eq v5 0#32)) <| qZero3 (test (Scalar.cmpi .eq v5 3#32)) <|
        pure (Scalar.extui (Scalar.cmpi .eq v8 0#32))) := rfl

end Cert.Halo
end
end
-- ==== Proof.Body.lean ====
/-
# The body's run on one device

`body_eq` joins the parts to one chain of statements. `sound_body` runs the chain at a symbolic device: from the launch's
shares of a device to its result's block with the contents `outAt`.
-/
module

public import proofs.«01_k».proof.Proof.Parts

@[expose] public section

set_option maxRecDepth 65536

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kx → ℕ)

/-! ## One chain -/

section Chain
variable {α β : Type} (k : KProg F α) (g : α → KProg F β)

theorem pBar_bind : pBar k >>= g = pBar (k >>= g) := by
  unfold pBar; simp only [bind_assoc]
theorem pSignal_bind (d : Fin 6) (P : Prop) [Decidable P] (n : P → Dev nD) : pSignal d P n k >>= g = pSignal d P n (k >>= g) := by
  unfold pSignal; split <;> simp only [bind_assoc]
theorem pFace_bind (d : Fin 6) (w : S1x32x32.Idx → Elt F .bf16) (h₁) (h₂) : pFace d w h₁ h₂ k >>= g = pFace d w h₁ h₂ (k >>= g) := by
  unfold pFace; simp only [bind_assoc]
theorem pCopy_bind (d : Fin 6) (P : Prop) [Decidable P] (n : P → Dev nD) (h₁) (h₂) (h₃) (h₄) : pCopy d P n h₁ h₂ h₃ h₄ k >>= g = pCopy d P n h₁ h₂ h₃ h₄ (k >>= g) := by
  unfold pCopy; split <;> simp only [bind_assoc]
theorem pDrain_bind (d : Fin 6) (P : Prop) [Decidable P] (a₁ b₁ a₂ b₂ : Memref sig .tc .vmem S32x32 .bf16) (h₁) (h₂) (h₃) (h₄) :
    pDrain d P a₁ b₁ a₂ b₂ h₁ h₂ h₃ h₄ k >>= g = pDrain d P a₁ b₁ a₂ b₂ h₁ h₂ h₃ h₄ (k >>= g) := by
  unfold pDrain; split <;> simp only [bind_assoc]
theorem pPut_bind (r : Rect S32x32x32) (w : r.shape.Idx → Elt F .bf16) (h) : pPut r w h k >>= g = pPut r w h (k >>= g) := by
  unfold pPut; simp only [bind_assoc]
theorem pPutSub_bind (r : Rect S32x32x32) (w) (h₁) (h₂) : pPutSub (F := F) r w h₁ h₂ k >>= g = pPutSub r w h₁ h₂ (k >>= g) := by
  unfold pPutSub; simp only [bind_assoc]
theorem pAdd_bind (d : Fin 6) (P : Prop) [Decidable P] (r : Rect S32x32x32) (h₁) (h₂)
    (T : {α : Type} → (r.shape.Idx → Elt F .bf16) → (S1x32x32.Idx → Elt F .bf16) → KProg F α → KProg F α) (hT : ∀ v w, T v w k >>= g = T v w (k >>= g)) :
    pAdd d P r h₁ h₂ T k >>= g = pAdd d P r h₁ h₂ T (k >>= g) := by
  unfold pAdd; split <;> simp only [bind_assoc, hT]
theorem pZero_bind (P : Prop) [Decidable P] (r : Rect S32x32x32) (h₁) (T : {α : Type} → KProg F α → KProg F α) (hT : T k >>= g = T (k >>= g)) :
    pZero P r h₁ T k >>= g = pZero P r h₁ T (k >>= g) := by
  unfold pZero; split <;> simp only [bind_assoc, hT]
theorem qAdd0_bind (b : BitVec 1) : qAdd0 b k >>= g = qAdd0 b (k >>= g) := pAdd_bind k g 0 _ _ _ _ tAdd0 fun _ _ => pPut_bind ..
theorem qAdd1_bind (b : BitVec 1) : qAdd1 b k >>= g = qAdd1 b (k >>= g) := pAdd_bind k g 1 _ _ _ _ tAdd1 fun _ _ => pPut_bind ..
theorem qAdd2_bind (b : BitVec 1) : qAdd2 b k >>= g = qAdd2 b (k >>= g) := pAdd_bind k g 2 _ _ _ _ tAdd2 fun _ _ => pPutSub_bind ..
theorem qAdd3_bind (b : BitVec 1) : qAdd3 b k >>= g = qAdd3 b (k >>= g) := pAdd_bind k g 3 _ _ _ _ tAdd3 fun _ _ => pPutSub_bind ..
theorem qAdd4_bind (b : BitVec 1) : qAdd4 b k >>= g = qAdd4 b (k >>= g) := pAdd_bind k g 4 _ _ _ _ tAdd4 fun _ _ => pPut_bind ..
theorem qAdd5_bind (b : BitVec 1) : qAdd5 b k >>= g = qAdd5 b (k >>= g) := pAdd_bind k g 5 _ _ _ _ tAdd5 fun _ _ => pPut_bind ..
theorem qZero0_bind (b : BitVec 1) : qZero0 b k >>= g = qZero0 b (k >>= g) := pZero_bind k g _ _ _ tZero0 (pPut_bind ..)
theorem qZero1_bind (b : BitVec 1) : qZero1 b k >>= g = qZero1 b (k >>= g) := pZero_bind k g _ _ _ tZero1 (pPut_bind ..)
theorem qZero2_bind (b : BitVec 1) : qZero2 b k >>= g = qZero2 b (k >>= g) := pZero_bind k g _ _ _ tZero2 (pPutSub_bind ..)
theorem qZero3_bind (b : BitVec 1) : qZero3 b k >>= g = qZero3 b (k >>= g) := pZero_bind k g _ _ _ tZero3 (pPutSub_bind ..)
end Chain

/-- The base stencil of a block: six shifted copies with zeros moved in, added, less six times the block. -/
def base (v : Blk (F := F)) : Blk (F := F) := k0_pay13 (k0_pay3 v) k0_pay11 (k0_pay12 (k0_pay3 v))

/-- The signals, then the load of the block. -/
abbrev chain1 {α : Type} (c : Dev nD) (k : Blk (F := F) → KProg F α) : KProg F α :=
  pBar <|
  pSignal 0 (k0_cond1 c = 1#1) (fun h => ⟨k0_dev1 c, k0_dev1_lt c h⟩) <| pSignal 1 (k0_cond2 c = 1#1) (fun h => ⟨k0_dev2 c, k0_dev2_lt c h⟩) <|
  pSignal 2 (k0_cond3 c = 1#1) (fun h => ⟨k0_dev3 c, k0_dev3_lt c h⟩) <| pSignal 3 (k0_cond4 c = 1#1) (fun h => ⟨k0_dev4 c, k0_dev4_lt c h⟩) <|
  pSignal 4 (k0_cond5 c = 1#1) (fun h => ⟨k0_dev5 c, k0_dev5_lt c h⟩) <| pSignal 5 (k0_cond6 c = 1#1) (fun h => ⟨k0_dev6 c, k0_dev6_lt c h⟩) <|
  Prog.lift (.load iM (Rect.unit (s := S32x32x32) ![0, 0, 0] S32x32x32.size inb_S32x32x32_S32x32x32_0_0_0).toLoadRect (View.loadsAt_vmem h_S32x32x32)) >>= k
/-- The faces. -/
abbrev chain2 {α : Type} (v : Blk (F := F)) (k : KProg F α) : KProg F α :=
  qFace 0 (k0_pay4 v) <| qFace 1 (k0_pay5 v) <| qFace 2 (k0_pay6 v) <| qFace 3 (k0_pay7 v) <| qFace 4 (k0_pay8 v) <| qFace 5 (k0_pay10 (k0_pay9 v)) k
/-- The copies. -/
abbrev chain3 {α : Type} (c : Dev nD) (k : KProg F α) : KProg F α :=
  qCopy 0 (k0_cond7 c = 1#1) (fun h => ⟨k0_dev7 c, k0_dev7_lt c h⟩) <| qCopy 1 (k0_cond8 c = 1#1) (fun h => ⟨k0_dev8 c, k0_dev8_lt c h⟩) <|
  qCopy 2 (k0_cond9 c = 1#1) (fun h => ⟨k0_dev9 c, k0_dev9_lt c h⟩) <| qCopy 3 (k0_cond10 c = 1#1) (fun h => ⟨k0_dev10 c, k0_dev10_lt c h⟩) <|
  qCopy 4 (k0_cond11 c = 1#1) (fun h => ⟨k0_dev11 c, k0_dev11_lt c h⟩) <| qCopy 5 (k0_cond12 c = 1#1) (fun h => ⟨k0_dev12 c, k0_dev12_lt c h⟩) k
/-- The base stencil, and the waits. -/
abbrev chain4 {α : Type} (c : Dev nD) (v : Blk (F := F)) (k : KProg F α) : KProg F α :=
  Prog.lift (.load oM (Rect.unit (s := S32x32x32) ![0, 0, 0] S32x32x32.size inb_S32x32x32_S32x32x32_0_0_0).toLoadRect (View.loadsAt_vmem h_S32x32x32)) >>= fun _ =>
  pPut (Rect.unit (s := S32x32x32) ![0, 0, 0] S32x32x32.size inb_S32x32x32_S32x32x32_0_0_0) (base v)
    (View.stores_vmem h_S32x32x32 ((Memref.isWhole_whole _).storeExact_slice rfl _ packedbf16_S32x32x32_S32x32x32_0_0_0) (fun _ => rfl)) <|
  qDrain 0 (test (Scalar.cmpi .sgt (cX c) 0#32) = 1#1) <| qDrain 1 (test (Scalar.cmpi .slt (cX c) 1#32) = 1#1) <| qDrain 2 (test (Scalar.cmpi .sgt (cY c) 0#32) = 1#1) <|
  qDrain 3 (test (Scalar.cmpi .slt (cY c) 3#32) = 1#1) <| qDrain 4 (test (Scalar.cmpi .sgt (cZ c) 0#32) = 1#1) <| qDrain 5 (test (Scalar.cmpi .slt (cZ c) 3#32) = 1#1) k
/-- The halo additions. -/
abbrev chain5 {α : Type} (c : Dev nD) (k : KProg F α) : KProg F α :=
  qAdd0 (test (Scalar.cmpi .sgt (cX c) 0#32)) <| qAdd1 (test (Scalar.cmpi .slt (cX c) 1#32)) <| qAdd2 (test (Scalar.cmpi .sgt (cY c) 0#32)) <|
  qAdd3 (test (Scalar.cmpi .slt (cY c) 3#32)) <| qAdd4 (test (Scalar.cmpi .sgt (cZ c) 0#32)) <| qAdd5 (test (Scalar.cmpi .slt (cZ c) 3#32)) k
/-- The zeroings. -/
abbrev chain6 {α : Type} (c : Dev nD) (k : KProg F α) : KProg F α :=
  qZero0 (test (Scalar.cmpi .eq (cX c) 0#32)) <| qZero1 (test (Scalar.cmpi .eq (cX c) 1#32)) <| qZero2 (test (Scalar.cmpi .eq (cY c) 0#32)) <|
  qZero3 (test (Scalar.cmpi .eq (cY c) 3#32)) <| qZero4 (test (Scalar.cmpi .eq (cZ c) 0#32)) <| qZero5 (test (Scalar.cmpi .eq (cZ c) 3#32)) k

/-- The whole body as one chain. -/
theorem body_eq :
    cc0_body (F := F) iM (Memref.isWhole_whole _) oM (Memref.isWhole_whole _) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6 cc0_scratch7 cc0_scratch8
    = (Prog.lift .deviceId >>= fun c => chain1 c fun v => chain2 v <| chain3 c <| chain4 c v <| chain5 c <| chain6 c <| pure ⟨⟩) := by
  rw [cc0_body_eq_skeleton]
  unfold cc0_body_skel
  simp only [part1_eq, part2_eq, part3_eq, part4_eq, part5_eq, bind_assoc, pure_bind, pBar_bind, pSignal_bind, pFace_bind, pCopy_bind, pDrain_bind, pPut_bind,
    qAdd0_bind, qAdd1_bind, qAdd2_bind, qAdd3_bind, qAdd4_bind, qAdd5_bind, qZero0_bind, qZero1_bind, qZero2_bind, qZero3_bind]
  rfl

/-! ## The guards and the addressed devices -/

theorem cond1 (c : Dev nD) : k0_cond1 c = 1#1 ↔ Has 0 c := by revert c; decide +kernel
theorem cond7 (c : Dev nD) : k0_cond7 c = 1#1 ↔ Has 0 c := cond1 c
theorem dev1 (c : Dev nD) (h : k0_cond1 c = 1#1) : (⟨k0_dev1 c, k0_dev1_lt c h⟩ : Dev nD) = nbr 0 c :=
  Fin.ext ((by decide +kernel : ∀ c : Dev nD, k0_cond1 c = 1#1 → k0_dev1 c = nbrN 0 c) c h)
theorem dev7 (c : Dev nD) (h : k0_cond7 c = 1#1) : (⟨k0_dev7 c, k0_dev7_lt c h⟩ : Dev nD) = nbr 0 c :=
  Fin.ext ((by decide +kernel : ∀ c : Dev nD, k0_cond7 c = 1#1 → k0_dev7 c = nbrN 0 c) c h)
theorem cond2 (c : Dev nD) : k0_cond2 c = 1#1 ↔ Has 1 c := by revert c; decide +kernel
theorem cond8 (c : Dev nD) : k0_cond8 c = 1#1 ↔ Has 1 c := cond2 c
theorem dev2 (c : Dev nD) (h : k0_cond2 c = 1#1) : (⟨k0_dev2 c, k0_dev2_lt c h⟩ : Dev nD) = nbr 1 c :=
  Fin.ext ((by decide +kernel : ∀ c : Dev nD, k0_cond2 c = 1#1 → k0_dev2 c = nbrN 1 c) c h)
theorem dev8 (c : Dev nD) (h : k0_cond8 c = 1#1) : (⟨k0_dev8 c, k0_dev8_lt c h⟩ : Dev nD) = nbr 1 c :=
  Fin.ext ((by decide +kernel : ∀ c : Dev nD, k0_cond8 c = 1#1 → k0_dev8 c = nbrN 1 c) c h)
theorem cond3 (c : Dev nD) : k0_cond3 c = 1#1 ↔ Has 2 c := by revert c; decide +kernel
theorem cond9 (c : Dev nD) : k0_cond9 c = 1#1 ↔ Has 2 c := cond3 c
theorem dev3 (c : Dev nD) (h : k0_cond3 c = 1#1) : (⟨k0_dev3 c, k0_dev3_lt c h⟩ : Dev nD) = nbr 2 c :=
  Fin.ext ((by decide +kernel : ∀ c : Dev nD, k0_cond3 c = 1#1 → k0_dev3 c = nbrN 2 c) c h)
theorem dev9 (c : Dev nD) (h : k0_cond9 c = 1#1) : (⟨k0_dev9 c, k0_dev9_lt c h⟩ : Dev nD) = nbr 2 c :=
  Fin.ext ((by decide +kernel : ∀ c : Dev nD, k0_cond9 c = 1#1 → k0_dev9 c = nbrN 2 c) c h)
theorem cond4 (c : Dev nD) : k0_cond4 c = 1#1 ↔ Has 3 c := by revert c; decide +kernel
theorem cond10 (c : Dev nD) : k0_cond10 c = 1#1 ↔ Has 3 c := cond4 c
theorem dev4 (c : Dev nD) (h : k0_cond4 c = 1#1) : (⟨k0_dev4 c, k0_dev4_lt c h⟩ : Dev nD) = nbr 3 c :=
  Fin.ext ((by decide +kernel : ∀ c : Dev nD, k0_cond4 c = 1#1 → k0_dev4 c = nbrN 3 c) c h)
theorem dev10 (c : Dev nD) (h : k0_cond10 c = 1#1) : (⟨k0_dev10 c, k0_dev10_lt c h⟩ : Dev nD) = nbr 3 c :=
  Fin.ext ((by decide +kernel : ∀ c : Dev nD, k0_cond10 c = 1#1 → k0_dev10 c = nbrN 3 c) c h)
theorem cond5 (c : Dev nD) : k0_cond5 c = 1#1 ↔ Has 4 c := by revert c; decide +kernel
theorem cond11 (c : Dev nD) : k0_cond11 c = 1#1 ↔ Has 4 c := cond5 c
theorem dev5 (c : Dev nD) (h : k0_cond5 c = 1#1) : (⟨k0_dev5 c, k0_dev5_lt c h⟩ : Dev nD) = nbr 4 c :=
  Fin.ext ((by decide +kernel : ∀ c : Dev nD, k0_cond5 c = 1#1 → k0_dev5 c = nbrN 4 c) c h)
theorem dev11 (c : Dev nD) (h : k0_cond11 c = 1#1) : (⟨k0_dev11 c, k0_dev11_lt c h⟩ : Dev nD) = nbr 4 c :=
  Fin.ext ((by decide +kernel : ∀ c : Dev nD, k0_cond11 c = 1#1 → k0_dev11 c = nbrN 4 c) c h)
theorem cond6 (c : Dev nD) : k0_cond6 c = 1#1 ↔ Has 5 c := by revert c; decide +kernel
theorem cond12 (c : Dev nD) : k0_cond12 c = 1#1 ↔ Has 5 c := cond6 c
theorem dev6 (c : Dev nD) (h : k0_cond6 c = 1#1) : (⟨k0_dev6 c, k0_dev6_lt c h⟩ : Dev nD) = nbr 5 c :=
  Fin.ext ((by decide +kernel : ∀ c : Dev nD, k0_cond6 c = 1#1 → k0_dev6 c = nbrN 5 c) c h)
theorem dev12 (c : Dev nD) (h : k0_cond12 c = 1#1) : (⟨k0_dev12 c, k0_dev12_lt c h⟩ : Dev nD) = nbr 5 c :=
  Fin.ext ((by decide +kernel : ∀ c : Dev nD, k0_cond12 c = 1#1 → k0_dev12 c = nbrN 5 c) c h)
theorem none0 (c : Dev nD) : test (Scalar.cmpi .eq (cX c) 0#32) = 1#1 ↔ ¬ Has 0 c := by revert c; decide +kernel
theorem none1 (c : Dev nD) : test (Scalar.cmpi .eq (cX c) 1#32) = 1#1 ↔ ¬ Has 1 c := by revert c; decide +kernel
theorem none2 (c : Dev nD) : test (Scalar.cmpi .eq (cY c) 0#32) = 1#1 ↔ ¬ Has 2 c := by revert c; decide +kernel
theorem none3 (c : Dev nD) : test (Scalar.cmpi .eq (cY c) 3#32) = 1#1 ↔ ¬ Has 3 c := by revert c; decide +kernel
theorem none4 (c : Dev nD) : test (Scalar.cmpi .eq (cZ c) 0#32) = 1#1 ↔ ¬ Has 4 c := by revert c; decide +kernel
theorem none5 (c : Dev nD) : test (Scalar.cmpi .eq (cZ c) 3#32) = 1#1 ↔ ¬ Has 5 c := by revert c; decide +kernel

/-! ## What is stored -/

/-- An assertion for each direction. -/
abbrev six (Φ : Fin 6 → sProp 𝕄) : sProp 𝕄 := iprop(Φ 0 ∗ Φ 1 ∗ Φ 2 ∗ Φ 3 ∗ Φ 4 ∗ Φ 5)

/-- Device `c`'s staging buffer for the input holds `v`. -/
def inIs (c : Dev nD) (v : Blk (F := F)) : sProp 𝕄 := iprop(((c : Thread nD τ).loc cc0_stg0_0) ↦{fullShare} v)

/-- A device's block of the result: the base stencil, the landed faces added, the planes at the boundary zeroed. -/
def outAt (c : Dev nD) : Blk (F := F) :=
  zeroIf 5 c (zeroIf 4 c (zeroIf 3 c (zeroIf 2 c (zeroIf 1 c (zeroIf 0 c
    (addIf m ρ 5 c (addIf m ρ 4 c (addIf m ρ 3 c (addIf m ρ 2 c (addIf m ρ 1 c (addIf m ρ 0 c (base (xstg m ρ c)))))))))))))

/-- The barrier cell at its start, its token and its credit. -/
def barPre (c : Dev nD) : sProp 𝕄 := iprop(atPos ER (barCell c) 0 ∅ 0 ∗ dutyTok ER (barCell c) 0 () ∗ cred (tallyAt (barCell c) () 1))

omit [FloatOps F] in
theorem pay_bar (c : Dev nD) : iprop(emp) ⊢ (haloRd (F := F) m ρ).payload ((c : Thread nD τ), SemLoc.reg barS) 0 () :=
  Entails.of_eq (payload_at m ρ c none ()).symm

/-! ## The stores of sums and zeros -/

theorem puts_add0 (c : Dev nD) (o : Blk (F := F)) (f : Halo (F := F) 0) :
    Puts c (fun k => tAdd0 (VecWindow.window o ![0, 0, 0] S1x32x32.size (by decide)) (slotRead 0 f) k) o (addFace 0 ((hM 0).view.read (Elt F) f) o) :=
  puts_put c ![0, 0, 0] S1x32x32.size _ _ _ _ _ (add_x 0 (.inl rfl) o f (by decide))
theorem puts_zero0 (c : Dev nD) (o : Blk (F := F)) : Puts c tZero0 o (zeroFace 0 o) :=
  puts_put c ![0, 0, 0] S1x32x32.size _ _ _ _ _ (zero_x 0 (.inl rfl) o)
theorem puts_add1 (c : Dev nD) (o : Blk (F := F)) (f : Halo (F := F) 1) :
    Puts c (fun k => tAdd1 (VecWindow.window o ![31, 0, 0] S1x32x32.size (by decide)) (slotRead 1 f) k) o (addFace 1 ((hM 1).view.read (Elt F) f) o) :=
  puts_put c ![31, 0, 0] S1x32x32.size _ _ _ _ _ (add_x 1 (.inr rfl) o f (by decide))
theorem puts_zero1 (c : Dev nD) (o : Blk (F := F)) : Puts c tZero1 o (zeroFace 1 o) :=
  puts_put c ![31, 0, 0] S1x32x32.size _ _ _ _ _ (zero_x 1 (.inr rfl) o)
theorem sum_off2 : (fun a => (![0, 0, 0] : Fin 3 → ℕ) a + (![0, 0, 0] : Fin 3 → ℕ) a) = ![0, 0, 0] := by funext a; fin_cases a <;> rfl
theorem puts_add2 (c : Dev nD) (o : Blk (F := F)) (f : Halo (F := F) 2) :
    Puts c (fun k => tAdd2 (VecWindow.window o ![0, 0, 0] S32x1x32.size (by decide)) (slotRead 2 f) k) o (addFace 2 ((hM 2).view.read (Elt F) f) o) :=
  puts_putSub c ![0, 0, 0] S32x2x32.size ![0, 0, 0] S32x1x32.size _ _ _ _ _ _ _ (by rw [sum_off2]; exact add_y 2 (.inl rfl) o f (by decide))
theorem puts_zero2 (c : Dev nD) (o : Blk (F := F)) : Puts c tZero2 o (zeroFace 2 o) :=
  puts_putSub c ![0, 0, 0] S32x2x32.size ![0, 0, 0] S32x1x32.size _ _ _ _ _ _ _ (by rw [sum_off2]; exact zero_y 2 (.inl rfl) o)
theorem sum_off3 : (fun a => (![0, 30, 0] : Fin 3 → ℕ) a + (![0, 1, 0] : Fin 3 → ℕ) a) = ![0, 31, 0] := by funext a; fin_cases a <;> rfl
theorem puts_add3 (c : Dev nD) (o : Blk (F := F)) (f : Halo (F := F) 3) :
    Puts c (fun k => tAdd3 (VecWindow.window o ![0, 31, 0] S32x1x32.size (by decide)) (slotRead 3 f) k) o (addFace 3 ((hM 3).view.read (Elt F) f) o) :=
  puts_putSub c ![0, 30, 0] S32x2x32.size ![0, 1, 0] S32x1x32.size _ _ _ _ _ _ _ (by rw [sum_off3]; exact add_y 3 (.inr rfl) o f (by decide))
theorem puts_zero3 (c : Dev nD) (o : Blk (F := F)) : Puts c tZero3 o (zeroFace 3 o) :=
  puts_putSub c ![0, 30, 0] S32x2x32.size ![0, 1, 0] S32x1x32.size _ _ _ _ _ _ _ (by rw [sum_off3]; exact zero_y 3 (.inr rfl) o)
theorem puts_add4 (c : Dev nD) (o : Blk (F := F)) (f : Halo (F := F) 4) :
    Puts c (fun k => tAdd4 (VecWindow.window o ![0, 0, 0] S32x32x1.size (by decide)) (slotRead 4 f) k) o (addFace 4 ((hM 4).view.read (Elt F) f) o) :=
  puts_put c ![0, 0, 0] S32x32x1.size _ _ _ _ _ (add_z 4 (.inl rfl) o f (by decide))
theorem puts_zero4 (c : Dev nD) (o : Blk (F := F)) : Puts c tZero4 o (zeroFace 4 o) :=
  puts_put c ![0, 0, 0] S32x32x1.size _ _ _ _ _ (zero_z 4 (.inl rfl) o)
theorem puts_add5 (c : Dev nD) (o : Blk (F := F)) (f : Halo (F := F) 5) :
    Puts c (fun k => tAdd5 (VecWindow.window o ![0, 0, 31] S32x32x1.size (by decide)) (slotRead 5 f) k) o (addFace 5 ((hM 5).view.read (Elt F) f) o) :=
  puts_put c ![0, 0, 31] S32x32x1.size _ _ _ _ _ (add_z 5 (.inr rfl) o f (by decide))
theorem puts_zero5 (c : Dev nD) (o : Blk (F := F)) : Puts c tZero5 o (zeroFace 5 o) :=
  puts_put c ![0, 0, 31] S32x32x1.size _ _ _ _ _ (zero_z 5 (.inr rfl) o)

/-! ## The segments of the run -/

theorem run_add0 (c : Dev nD) {b : BitVec 1} (hb : b = 1#1 ↔ Has 0 c) (o : Blk (F := F)) {α : Type} {Q : α → sProp 𝕄} {k : KProg F α} :
    iprop(st3 m ρ 0 c ∗ outIs c o ∗ ((st3 m ρ 0 c ∗ outIs c (addIf m ρ 0 c o)) -∗ wp frame (wpE (defs₀ (F := F)) 𝒱₀ (c : Thread nD τ) none) Set.univ k Q)) ⊢ wp frame (wpE (defs₀ (F := F)) 𝒱₀ (c : Thread nD τ) none) Set.univ (qAdd0 b k) Q :=
  step_add m ρ 0 c hb ![0, 0, 0] S1x32x32.size _ tAdd0 o (puts_add0 c o)
theorem run_add1 (c : Dev nD) {b : BitVec 1} (hb : b = 1#1 ↔ Has 1 c) (o : Blk (F := F)) {α : Type} {Q : α → sProp 𝕄} {k : KProg F α} :
    iprop(st3 m ρ 1 c ∗ outIs c o ∗ ((st3 m ρ 1 c ∗ outIs c (addIf m ρ 1 c o)) -∗ wp frame (wpE (defs₀ (F := F)) 𝒱₀ (c : Thread nD τ) none) Set.univ k Q)) ⊢ wp frame (wpE (defs₀ (F := F)) 𝒱₀ (c : Thread nD τ) none) Set.univ (qAdd1 b k) Q :=
  step_add m ρ 1 c hb ![31, 0, 0] S1x32x32.size _ tAdd1 o (puts_add1 c o)
theorem run_add2 (c : Dev nD) {b : BitVec 1} (hb : b = 1#1 ↔ Has 2 c) (o : Blk (F := F)) {α : Type} {Q : α → sProp 𝕄} {k : KProg F α} :
    iprop(st3 m ρ 2 c ∗ outIs c o ∗ ((st3 m ρ 2 c ∗ outIs c (addIf m ρ 2 c o)) -∗ wp frame (wpE (defs₀ (F := F)) 𝒱₀ (c : Thread nD τ) none) Set.univ k Q)) ⊢ wp frame (wpE (defs₀ (F := F)) 𝒱₀ (c : Thread nD τ) none) Set.univ (qAdd2 b k) Q :=
  step_add m ρ 2 c hb ![0, 0, 0] S32x1x32.size _ tAdd2 o (puts_add2 c o)
theorem run_add3 (c : Dev nD) {b : BitVec 1} (hb : b = 1#1 ↔ Has 3 c) (o : Blk (F := F)) {α : Type} {Q : α → sProp 𝕄} {k : KProg F α} :
    iprop(st3 m ρ 3 c ∗ outIs c o ∗ ((st3 m ρ 3 c ∗ outIs c (addIf m ρ 3 c o)) -∗ wp frame (wpE (defs₀ (F := F)) 𝒱₀ (c : Thread nD τ) none) Set.univ k Q)) ⊢ wp frame (wpE (defs₀ (F := F)) 𝒱₀ (c : Thread nD τ) none) Set.univ (qAdd3 b k) Q :=
  step_add m ρ 3 c hb ![0, 31, 0] S32x1x32.size _ tAdd3 o (puts_add3 c o)
theorem run_add4 (c : Dev nD) {b : BitVec 1} (hb : b = 1#1 ↔ Has 4 c) (o : Blk (F := F)) {α : Type} {Q : α → sProp 𝕄} {k : KProg F α} :
    iprop(st3 m ρ 4 c ∗ outIs c o ∗ ((st3 m ρ 4 c ∗ outIs c (addIf m ρ 4 c o)) -∗ wp frame (wpE (defs₀ (F := F)) 𝒱₀ (c : Thread nD τ) none) Set.univ k Q)) ⊢ wp frame (wpE (defs₀ (F := F)) 𝒱₀ (c : Thread nD τ) none) Set.univ (qAdd4 b k) Q :=
  step_add m ρ 4 c hb ![0, 0, 0] S32x32x1.size _ tAdd4 o (puts_add4 c o)
theorem run_add5 (c : Dev nD) {b : BitVec 1} (hb : b = 1#1 ↔ Has 5 c) (o : Blk (F := F)) {α : Type} {Q : α → sProp 𝕄} {k : KProg F α} :
    iprop(st3 m ρ 5 c ∗ outIs c o ∗ ((st3 m ρ 5 c ∗ outIs c (addIf m ρ 5 c o)) -∗ wp frame (wpE (defs₀ (F := F)) 𝒱₀ (c : Thread nD τ) none) Set.univ k Q)) ⊢ wp frame (wpE (defs₀ (F := F)) 𝒱₀ (c : Thread nD τ) none) Set.univ (qAdd5 b k) Q :=
  step_add m ρ 5 c hb ![0, 0, 31] S32x32x1.size _ tAdd5 o (puts_add5 c o)
theorem run_zero0 (c : Dev nD) {b : BitVec 1} (hb : b = 1#1 ↔ ¬ Has 0 c) (o : Blk (F := F)) {α : Type} {Q : α → sProp 𝕄} {k : KProg F α} :
    iprop(outIs c o ∗ (outIs c (zeroIf 0 c o) -∗ wp frame (wpE (defs₀ (F := F)) 𝒱₀ (c : Thread nD τ) none) Set.univ k Q)) ⊢ wp frame (wpE (defs₀ (F := F)) 𝒱₀ (c : Thread nD τ) none) Set.univ (qZero0 b k) Q :=
  step_zero 0 c hb tZero0 o (puts_zero0 c o)
theorem run_zero1 (c : Dev nD) {b : BitVec 1} (hb : b = 1#1 ↔ ¬ Has 1 c) (o : Blk (F := F)) {α : Type} {Q : α → sProp 𝕄} {k : KProg F α} :
    iprop(outIs c o ∗ (outIs c (zeroIf 1 c o) -∗ wp frame (wpE (defs₀ (F := F)) 𝒱₀ (c : Thread nD τ) none) Set.univ k Q)) ⊢ wp frame (wpE (defs₀ (F := F)) 𝒱₀ (c : Thread nD τ) none) Set.univ (qZero1 b k) Q :=
  step_zero 1 c hb tZero1 o (puts_zero1 c o)
theorem run_zero2 (c : Dev nD) {b : BitVec 1} (hb : b = 1#1 ↔ ¬ Has 2 c) (o : Blk (F := F)) {α : Type} {Q : α → sProp 𝕄} {k : KProg F α} :
    iprop(outIs c o ∗ (outIs c (zeroIf 2 c o) -∗ wp frame (wpE (defs₀ (F := F)) 𝒱₀ (c : Thread nD τ) none) Set.univ k Q)) ⊢ wp frame (wpE (defs₀ (F := F)) 𝒱₀ (c : Thread nD τ) none) Set.univ (qZero2 b k) Q :=
  step_zero 2 c hb tZero2 o (puts_zero2 c o)
theorem run_zero3 (c : Dev nD) {b : BitVec 1} (hb : b = 1#1 ↔ ¬ Has 3 c) (o : Blk (F := F)) {α : Type} {Q : α → sProp 𝕄} {k : KProg F α} :
    iprop(outIs c o ∗ (outIs c (zeroIf 3 c o) -∗ wp frame (wpE (defs₀ (F := F)) 𝒱₀ (c : Thread nD τ) none) Set.univ k Q)) ⊢ wp frame (wpE (defs₀ (F := F)) 𝒱₀ (c : Thread nD τ) none) Set.univ (qZero3 b k) Q :=
  step_zero 3 c hb tZero3 o (puts_zero3 c o)
theorem run_zero4 (c : Dev nD) {b : BitVec 1} (hb : b = 1#1 ↔ ¬ Has 4 c) (o : Blk (F := F)) {α : Type} {Q : α → sProp 𝕄} {k : KProg F α} :
    iprop(outIs c o ∗ (outIs c (zeroIf 4 c o) -∗ wp frame (wpE (defs₀ (F := F)) 𝒱₀ (c : Thread nD τ) none) Set.univ k Q)) ⊢ wp frame (wpE (defs₀ (F := F)) 𝒱₀ (c : Thread nD τ) none) Set.univ (qZero4 b k) Q :=
  step_zero 4 c hb tZero4 o (puts_zero4 c o)
theorem run_zero5 (c : Dev nD) {b : BitVec 1} (hb : b = 1#1 ↔ ¬ Has 5 c) (o : Blk (F := F)) {α : Type} {Q : α → sProp 𝕄} {k : KProg F α} :
    iprop(outIs c o ∗ (outIs c (zeroIf 5 c o) -∗ wp frame (wpE (defs₀ (F := F)) 𝒱₀ (c : Thread nD τ) none) Set.univ k Q)) ⊢ wp frame (wpE (defs₀ (F := F)) 𝒱₀ (c : Thread nD τ) none) Set.univ (qZero5 b k) Q :=
  step_zero 5 c hb tZero5 o (puts_zero5 c o)

/-- The device's signal to itself and its wait. -/
theorem step_bar (c : Dev nD) {α : Type} {Q : α → sProp 𝕄} {k : KProg F α} :
    iprop(records m ρ K ∗ levAts L lv ∗ (barPre c ∗ ow c (O₀ c))
        ∗ ((atPos ER (barCell c) 1 ∅ 0 ∗ ow c (owedSignals c dirs)) -∗ wp frame (wpE (defs₀ (F := F)) 𝒱₀ (c : Thread nD τ) none) Set.univ k Q))
      ⊢ wp frame (wpE (defs₀ (F := F)) 𝒱₀ (c : Thread nD τ) none) Set.univ (pBar k) Q := by
  unfold pBar barPre ow
  simp only [semSignalHereWord, semWaitWord, Prog.bind_op, Prog.bind_ret, wp_deviceId]
  iintro ⟨#HR, #Hlev, ⟨⟨Ha, Ht, Hc⟩, ⟨%W, HO⟩⟩, Hk⟩
  iapply (Rounds.wp_signal 𝒱₀ ER (haloRd m ρ) (c : Thread nD τ) none (dst := (c : Thread nD τ)) (sem := barS) (κ := K (c, none))
      (r := 0) (d := ()) (k' := 1) (mem_live m ρ c none trivial)
      (amount_at m ρ c none ()) () (owedSignals c dirs) rfl) $$ [HO Ht]
  · isplitr; · iapply (rec_inv m ρ K c none); iexact HR
    isplitl [HO]; · iexact HO
    isplitl [Ht]; · iexact Ht
    isplitr
    · iapply (pay_bar m ρ c); iempintro
    · iapply (rec_reached m ρ K c none); iexact HR
  iintro HO
  iapply (Rounds.wp_wait_rest_token 𝒱₀ ER (haloRd m ρ) (c : Thread nD τ) none (κ := K (c, none))
      (wpE_semWait_eq 𝒱₀ (c : Thread nD τ) none Set.univ) (Set.mem_univ _) () (O := owedSignals c dirs) (W := W) (R := 0) (m := 0) (T := ∅)
      (by rw [show (haloRd (F := F) m ρ).expect ((c : Thread nD τ), SemLoc.reg barS) 0 = units none from expect_live m ρ c none trivial]; rfl)) $$ [Hc HO Ha]
  · isplitr; · iapply (rec_inv m ρ K c none); iexact HR
    isplitl [Hc]; · iexact Hc
    isplitl [HO]; · iexact HO
    isplitr
    · iapply (mayWait_bar c); iexact Hlev
    iexact Ha
  iintro ⟨HO, Ha, -, -⟩
  iapply Hk
  isplitl [Ha]; · iexact Ha
  iexists _; iexact HO

/-- The barrier, the signals and the load of the block. -/
theorem seg1 (c : Dev nD) {α : Type} {Q : α → sProp 𝕄} {k : Blk (F := F) → KProg F α} :
    iprop(records m ρ K ∗ levAts L lv ∗ (barPre c ∗ ow c (O₀ c) ∗ six (fun d => st0 d c) ∗ inIs c (xstg m ρ c))
        ∗ ((atPos ER (barCell c) 1 ∅ 0 ∗ ow c (owedCopies c dirs) ∗ six (fun d => st1 d c) ∗ inIs c (xstg m ρ c)) -∗ wp frame (wpE (defs₀ (F := F)) 𝒱₀ (c : Thread nD τ) none) Set.univ (k (xstg m ρ c)) Q))
      ⊢ wp frame (wpE (defs₀ (F := F)) 𝒱₀ (c : Thread nD τ) none) Set.univ (chain1 c k) Q := by
  iintro ⟨#HR, #Hlev, ⟨Hb, HO, ⟨H0, H1, H2, H3, H4, H5⟩, Hi⟩, Hk⟩
  iapply (step_bar m ρ K c)
  isplitr; · iexact HR
  isplitr; · iexact Hlev
  isplitl [Hb HO]
  · isplitl [Hb] <;> iassumption
  iintro ⟨Hb, HO⟩
  iapply (step_signal m ρ K 0 c [1, 2, 3, 4, 5] (cond1 c) _ (dev1 c))
  isplitr; · iexact HR
  isplitl [H0 HO]
  · isplitl [H0] <;> iassumption
  iintro ⟨H0, HO⟩
  iapply (step_signal m ρ K 1 c [2, 3, 4, 5] (cond2 c) _ (dev2 c))
  isplitr; · iexact HR
  isplitl [H1 HO]
  · isplitl [H1] <;> iassumption
  iintro ⟨H1, HO⟩
  iapply (step_signal m ρ K 2 c [3, 4, 5] (cond3 c) _ (dev3 c))
  isplitr; · iexact HR
  isplitl [H2 HO]
  · isplitl [H2] <;> iassumption
  iintro ⟨H2, HO⟩
  iapply (step_signal m ρ K 3 c [4, 5] (cond4 c) _ (dev4 c))
  isplitr; · iexact HR
  isplitl [H3 HO]
  · isplitl [H3] <;> iassumption
  iintro ⟨H3, HO⟩
  iapply (step_signal m ρ K 4 c [5] (cond5 c) _ (dev5 c))
  isplitr; · iexact HR
  isplitl [H4 HO]
  · isplitl [H4] <;> iassumption
  iintro ⟨H4, HO⟩
  iapply (step_signal m ρ K 5 c [] (cond6 c) _ (dev6 c))
  isplitr; · iexact HR
  isplitl [H5 HO]
  · isplitl [H5] <;> iassumption
  iintro ⟨H5, HO⟩
  simp only [Prog.lift, Prog.bind_op, Prog.bind_ret]
  unfold inIs
  iapply (wp_load 𝒱₀ (c : Thread nD τ) none Set.univ (m := iM) (S := Finset.univ) (f := xstg m ρ c) (Finset.subset_univ _)) $$ [Hi]
  · iexact Hi
  iintro Hi
  rw [show iM.view.readAt (Elt F) (Rect.unit (s := S32x32x32) ![0, 0, 0] S32x32x32.size inb_S32x32x32_S32x32x32_0_0_0).toLoadRect (xstg m ρ c) = xstg m ρ c from
    Memref.readAt_unit_zero (Elt F) cc0_stg0_0 (by funext a; fin_cases a <;> rfl) _ _]
  iapply Hk
  isplitl [Hb]; · iexact Hb
  isplitl [HO]; · iexact HO
  isplitr [Hi]
  · isplitl [H0]; · iexact H0
    isplitl [H1]; · iexact H1
    isplitl [H2]; · iexact H2
    isplitl [H3]; · iexact H3
    isplitl [H4] <;> iassumption
  iexact Hi

theorem face0 (v : Blk (F := F)) : shapeCast S32x32 (k0_pay4 v) shapeCasts_S1x32x32_S32x32 = face 0 v := face_x 0 (.inl rfl) v (by decide) (by decide) (by decide) (by decide)
theorem face1 (v : Blk (F := F)) : shapeCast S32x32 (k0_pay5 v) shapeCasts_S1x32x32_S32x32 = face 1 v := face_x 1 (.inr rfl) v (by decide) (by decide) (by decide) (by decide)
theorem face2 (v : Blk (F := F)) : shapeCast S32x32 (k0_pay6 v) shapeCasts_S1x32x32_S32x32 = face 2 v := face_y 2 (.inl rfl) v (by decide) (by decide) (by decide) (by decide) (by decide)
theorem face3 (v : Blk (F := F)) : shapeCast S32x32 (k0_pay7 v) shapeCasts_S1x32x32_S32x32 = face 3 v := face_y 3 (.inr rfl) v (by decide) (by decide) (by decide) (by decide) (by decide)
theorem face4 (v : Blk (F := F)) : shapeCast S32x32 (k0_pay8 v) shapeCasts_S1x32x32_S32x32 = face 4 v := face_z 4 (.inl rfl) v (by decide) (by decide) (by decide) (by decide) (by decide)
theorem face5 (v : Blk (F := F)) : shapeCast S32x32 (k0_pay10 (k0_pay9 v)) shapeCasts_S1x32x32_S32x32 = face 5 v := face_z 5 (.inr rfl) v (by decide) (by decide) (by decide) (by decide) (by decide)

/-- The six faces. -/
theorem seg2 (c : Dev nD) (v : Blk (F := F)) {α : Type} {Q : α → sProp 𝕄} {k : KProg F α} :
    iprop(six (fun d => anyIn (sM d) c) ∗ (six (fun d => holds (sM d) c (face d v)) -∗ wp frame (wpE (defs₀ (F := F)) 𝒱₀ (c : Thread nD τ) none) Set.univ k Q)) ⊢ wp frame (wpE (defs₀ (F := F)) 𝒱₀ (c : Thread nD τ) none) Set.univ (chain2 v k) Q := by
  iintro ⟨⟨H0, H1, H2, H3, H4, H5⟩, Hk⟩
  iapply (step_face 0 c (k0_pay4 v) (face 0 v) shapeCasts_S1x32x32_S32x32 (face0 v))
  isplitl [H0]; · iexact H0
  iintro H0
  iapply (step_face 1 c (k0_pay5 v) (face 1 v) shapeCasts_S1x32x32_S32x32 (face1 v))
  isplitl [H1]; · iexact H1
  iintro H1
  iapply (step_face 2 c (k0_pay6 v) (face 2 v) shapeCasts_S1x32x32_S32x32 (face2 v))
  isplitl [H2]; · iexact H2
  iintro H2
  iapply (step_face 3 c (k0_pay7 v) (face 3 v) shapeCasts_S1x32x32_S32x32 (face3 v))
  isplitl [H3]; · iexact H3
  iintro H3
  iapply (step_face 4 c (k0_pay8 v) (face 4 v) shapeCasts_S1x32x32_S32x32 (face4 v))
  isplitl [H4]; · iexact H4
  iintro H4
  iapply (step_face 5 c (k0_pay10 (k0_pay9 v)) (face 5 v) shapeCasts_S1x32x32_S32x32 (face5 v))
  isplitl [H5]; · iexact H5
  iintro H5
  iapply Hk
  isplitl [H0]; · iexact H0
  isplitl [H1]; · iexact H1
  isplitl [H2]; · iexact H2
  isplitl [H3]; · iexact H3
  isplitl [H4] <;> iassumption

/-- The six copies. -/
theorem seg3 (c : Dev nD) {α : Type} {Q : α → sProp 𝕄} {k : KProg F α} :
    iprop(records m ρ K ∗ levAts L lv ∗ (ow c (owedCopies c dirs) ∗ six (fun d => st1 d c) ∗ six (fun d => holds (sM d) c (face d (xstg m ρ c))))
        ∗ ((ow c 0 ∗ six (fun d => st2 m ρ d c)) -∗ wp frame (wpE (defs₀ (F := F)) 𝒱₀ (c : Thread nD τ) none) Set.univ k Q))
      ⊢ wp frame (wpE (defs₀ (F := F)) 𝒱₀ (c : Thread nD τ) none) Set.univ (chain3 c k) Q := by
  iintro ⟨#HR, #Hlev, ⟨HO, ⟨H0, H1, H2, H3, H4, H5⟩, ⟨S0, S1, S2, S3, S4, S5⟩⟩, Hk⟩
  iapply (step_copy m ρ K 0 c [1, 2, 3, 4, 5] (cond7 c) _ (dev7 c))
  isplitr; · iexact HR
  isplitr; · iexact Hlev
  isplitl [H0 S0 HO]
  · isplitl [H0]; · iexact H0
    isplitl [S0] <;> iassumption
  iintro ⟨H0, HO⟩
  iapply (step_copy m ρ K 1 c [2, 3, 4, 5] (cond8 c) _ (dev8 c))
  isplitr; · iexact HR
  isplitr; · iexact Hlev
  isplitl [H1 S1 HO]
  · isplitl [H1]; · iexact H1
    isplitl [S1] <;> iassumption
  iintro ⟨H1, HO⟩
  iapply (step_copy m ρ K 2 c [3, 4, 5] (cond9 c) _ (dev9 c))
  isplitr; · iexact HR
  isplitr; · iexact Hlev
  isplitl [H2 S2 HO]
  · isplitl [H2]; · iexact H2
    isplitl [S2] <;> iassumption
  iintro ⟨H2, HO⟩
  iapply (step_copy m ρ K 3 c [4, 5] (cond10 c) _ (dev10 c))
  isplitr; · iexact HR
  isplitr; · iexact Hlev
  isplitl [H3 S3 HO]
  · isplitl [H3]; · iexact H3
    isplitl [S3] <;> iassumption
  iintro ⟨H3, HO⟩
  iapply (step_copy m ρ K 4 c [5] (cond11 c) _ (dev11 c))
  isplitr; · iexact HR
  isplitr; · iexact Hlev
  isplitl [H4 S4 HO]
  · isplitl [H4]; · iexact H4
    isplitl [S4] <;> iassumption
  iintro ⟨H4, HO⟩
  iapply (step_copy m ρ K 5 c [] (cond12 c) _ (dev12 c))
  isplitr; · iexact HR
  isplitr; · iexact Hlev
  isplitl [H5 S5 HO]
  · isplitl [H5]; · iexact H5
    isplitl [S5] <;> iassumption
  iintro ⟨H5, HO⟩
  iapply Hk
  isplitl [HO]; · iexact HO
  isplitl [H0]; · iexact H0
  isplitl [H1]; · iexact H1
  isplitl [H2]; · iexact H2
  isplitl [H3]; · iexact H3
  isplitl [H4] <;> iassumption

set_option maxHeartbeats 4000000 in
/-- The base stencil and the twelve waits. -/
theorem seg4 (c : Dev nD) (v : Blk (F := F)) {α : Type} {Q : α → sProp 𝕄} {k : KProg F α} :
    iprop(records m ρ K ∗ (ow c 0 ∗ six (fun d => st2 m ρ d c) ∗ (∃ o : Blk (F := F), outIs c o))
        ∗ ((ow c 0 ∗ outIs c (base v) ∗ six (fun d => st3 m ρ d c)) -∗ wp frame (wpE (defs₀ (F := F)) 𝒱₀ (c : Thread nD τ) none) Set.univ k Q))
      ⊢ wp frame (wpE (defs₀ (F := F)) 𝒱₀ (c : Thread nD τ) none) Set.univ (chain4 c v k) Q := by
  iintro ⟨#HR, ⟨HO, ⟨H0, H1, H2, H3, H4, H5⟩, ⟨%o, Ho⟩⟩, Hk⟩
  simp only [Prog.lift, Prog.bind_op, Prog.bind_ret, pPut]
  unfold outIs
  iapply (wp_load 𝒱₀ (c : Thread nD τ) none Set.univ (m := oM) (S := Finset.univ) (f := o) (Finset.subset_univ _)) $$ [Ho]
  · iexact Ho
  iintro Ho
  iapply (wp_store 𝒱₀ (c : Thread nD τ) none Set.univ (m := oM) (S := Finset.univ) (f := o) (Finset.subset_univ _)) $$ [Ho]
  · iexact Ho
  iintro Ho
  rw [show (oM.access (Rect.unit (s := S32x32x32) ![0, 0, 0] S32x32x32.size inb_S32x32x32_S32x32x32_0_0_0)).write (Elt F) o (base v) Finset.univ = base v from
    Memref.write_access_unit_zero_univ (Elt F) cc0_stg1_0 (by funext a; fin_cases a <;> rfl) _ _ _]
  iapply (step_drain m ρ K 0 c (cond1 c) (credit_hM 0) (credit_sM 0))
  isplitr; · iexact HR
  isplitl [H0 HO]
  · isplitl [H0] <;> iassumption
  iintro ⟨H0, HO⟩
  iapply (step_drain m ρ K 1 c (cond2 c) (credit_hM 1) (credit_sM 1))
  isplitr; · iexact HR
  isplitl [H1 HO]
  · isplitl [H1] <;> iassumption
  iintro ⟨H1, HO⟩
  iapply (step_drain m ρ K 2 c (cond3 c) (credit_hM 2) (credit_sM 2))
  isplitr; · iexact HR
  isplitl [H2 HO]
  · isplitl [H2] <;> iassumption
  iintro ⟨H2, HO⟩
  iapply (step_drain m ρ K 3 c (cond4 c) (credit_hM 3) (credit_sM 3))
  isplitr; · iexact HR
  isplitl [H3 HO]
  · isplitl [H3] <;> iassumption
  iintro ⟨H3, HO⟩
  iapply (step_drain m ρ K 4 c (cond5 c) (credit_hM 4) (credit_sM 4))
  isplitr; · iexact HR
  isplitl [H4 HO]
  · isplitl [H4] <;> iassumption
  iintro ⟨H4, HO⟩
  iapply (step_drain m ρ K 5 c (cond6 c) (credit_hM 5) (credit_sM 5))
  isplitr; · iexact HR
  isplitl [H5 HO]
  · isplitl [H5] <;> iassumption
  iintro ⟨H5, HO⟩
  iapply Hk
  isplitl [HO]; · iexact HO
  isplitl [Ho]; · iexact Ho
  isplitl [H0]; · iexact H0
  isplitl [H1]; · iexact H1
  isplitl [H2]; · iexact H2
  isplitl [H3]; · iexact H3
  isplitl [H4] <;> iassumption

/-- The six halo additions. -/
theorem seg5 (c : Dev nD) (o : Blk (F := F)) {α : Type} {Q : α → sProp 𝕄} {k : KProg F α} :
    iprop((outIs c o ∗ six (fun d => st3 m ρ d c))
        ∗ ((outIs c (addIf m ρ 5 c (addIf m ρ 4 c (addIf m ρ 3 c (addIf m ρ 2 c (addIf m ρ 1 c (addIf m ρ 0 c o)))))) ∗ six (fun d => st3 m ρ d c)) -∗ wp frame (wpE (defs₀ (F := F)) 𝒱₀ (c : Thread nD τ) none) Set.univ k Q))
      ⊢ wp frame (wpE (defs₀ (F := F)) 𝒱₀ (c : Thread nD τ) none) Set.univ (chain5 c k) Q := by
  iintro ⟨⟨Ho, ⟨H0, H1, H2, H3, H4, H5⟩⟩, Hk⟩
  iapply (run_add0 m ρ c (cond1 c) _)
  isplitl [H0]; · iexact H0
  isplitl [Ho]; · iexact Ho
  iintro ⟨H0, Ho⟩
  iapply (run_add1 m ρ c (cond2 c) _)
  isplitl [H1]; · iexact H1
  isplitl [Ho]; · iexact Ho
  iintro ⟨H1, Ho⟩
  iapply (run_add2 m ρ c (cond3 c) _)
  isplitl [H2]; · iexact H2
  isplitl [Ho]; · iexact Ho
  iintro ⟨H2, Ho⟩
  iapply (run_add3 m ρ c (cond4 c) _)
  isplitl [H3]; · iexact H3
  isplitl [Ho]; · iexact Ho
  iintro ⟨H3, Ho⟩
  iapply (run_add4 m ρ c (cond5 c) _)
  isplitl [H4]; · iexact H4
  isplitl [Ho]; · iexact Ho
  iintro ⟨H4, Ho⟩
  iapply (run_add5 m ρ c (cond6 c) _)
  isplitl [H5]; · iexact H5
  isplitl [Ho]; · iexact Ho
  iintro ⟨H5, Ho⟩
  iapply Hk
  isplitl [Ho]; · iexact Ho
  isplitl [H0]; · iexact H0
  isplitl [H1]; · iexact H1
  isplitl [H2]; · iexact H2
  isplitl [H3]; · iexact H3
  isplitl [H4] <;> iassumption

/-- The six zeroings. -/
theorem seg6 (c : Dev nD) (o : Blk (F := F)) {α : Type} {Q : α → sProp 𝕄} {k : KProg F α} :
    iprop(outIs c o ∗ (outIs c (zeroIf 5 c (zeroIf 4 c (zeroIf 3 c (zeroIf 2 c (zeroIf 1 c (zeroIf 0 c o)))))) -∗ wp frame (wpE (defs₀ (F := F)) 𝒱₀ (c : Thread nD τ) none) Set.univ k Q))
      ⊢ wp frame (wpE (defs₀ (F := F)) 𝒱₀ (c : Thread nD τ) none) Set.univ (chain6 c k) Q := by
  iintro ⟨Ho, Hk⟩
  iapply (run_zero0 c (none0 c) _)
  isplitl [Ho]; · iexact Ho
  iintro Ho
  iapply (run_zero1 c (none1 c) _)
  isplitl [Ho]; · iexact Ho
  iintro Ho
  iapply (run_zero2 c (none2 c) _)
  isplitl [Ho]; · iexact Ho
  iintro Ho
  iapply (run_zero3 c (none3 c) _)
  isplitl [Ho]; · iexact Ho
  iintro Ho
  iapply (run_zero4 c (none4 c) _)
  isplitl [Ho]; · iexact Ho
  iintro Ho
  iapply (run_zero5 c (none5 c) _)
  isplitl [Ho]; · iexact Ho
  iintro Ho
  iapply Hk
  iexact Ho

end Cert.Halo
end
end
-- ==== Proof.Run.lean ====
/-
# One device's run, from its share at launch to its result

The two slots of a send or landing buffer make up the buffer. `sound_body` runs the body at a symbolic device from its
share of the protocol's state; `body_obligation` says the same in the form the launch asks for.
-/
module

public import proofs.«01_k».proof.Proof.Body
public import proofs.«01_k».proof.Proof.Gen.KernelIdeal.Points

@[expose] public section

set_option maxRecDepth 65536

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots and buffers -/

omit [FloatOps F] in
/-- An index of a two-slot buffer lies in the slot of the side its first coordinate names. -/
theorem mem_slot (d : Fin 6) (i : S2x32x32.Idx) : i ∈ (slotRect d).set ↔ (i 0).val = side d := by
  have h0 : (i 0).val < 2 := (i 0).isLt
  have h1 : (i 1).val < 32 := (i 1).isLt
  have h2 : (i 2).val < 32 := (i 2).isLt
  rw [Rect.mem_set_unit]
  constructor
  · intro h
    have h3 : side d ≤ (i 0).val ∧ (i 0).val < side d + 1 := h 0
    omega
  · intro h a
    fin_cases a
    · show side d ≤ (i 0).val ∧ (i 0).val < side d + 1
      omega
    · show 0 ≤ (i 1).val ∧ (i 1).val < 0 + 32
      omega
    · show 0 ≤ (i 2).val ∧ (i 2).val < 0 + 32
      omega

omit [FloatOps F] in
theorem slot_set (M : Memref sig .tc .vmem S2x32x32 .bf16) (d : Fin 6) : (slot M d).view.set = (slotRect d).set.map M.view.emb :=
  (View.set_reshape _ _).trans (View.set_slice _ _)

section Slots
variable (M : Memref sig .tc .vmem S2x32x32 .bf16) (d d' : Fin 6) (h0 : side d = 0) (h1 : side d' = 1)
include h0 h1

omit [FloatOps F] in
/-- The two slots have no element in common. -/
theorem slots_disjoint : Disjoint (slot M d).view.set (slot M d').view.set := by
  rw [slot_set, slot_set, Finset.disjoint_map, Finset.disjoint_left]
  intro i hi hi'
  have := (mem_slot d i).mp hi; have := (mem_slot d' i).mp hi'
  omega
omit [FloatOps F] in
/-- The two slots are all of the buffer. -/
theorem slots_cover : (slot M d).view.set ∪ (slot M d').view.set = M.view.set := by
  rw [slot_set, slot_set, ← Finset.map_union]
  unfold View.set
  congr 1
  ext i
  have hi : (i 0).val < 2 := (i 0).isLt
  rw [Finset.mem_union, mem_slot, mem_slot, h0, h1]
  simp only [Finset.mem_univ, iff_true]
  omega

omit [FloatOps F] in
/-- A buffer at any contents, as its two slots at any contents. -/
theorem slots_split (hM : M.view.set = Finset.univ) (c : Dev nD) :
    iprop(∃ f : Buf (Elt F) (M.view.loc (c : Thread nD τ)), (M.view.loc (c : Thread nD τ)) ↦{fullShare} f)
      ⊢ (iprop(anyIn (slot M d) c ∗ anyIn (slot M d') c) : sProp 𝕄) := by
  iintro ⟨%f, H⟩
  rw [show (Finset.univ : Finset (Idx (M.view.loc (c : Thread nD τ)))) = (slot M d).view.set ∪ (slot M d').view.set from
    (slots_cover M d d' h0 h1).trans hM |>.symm]
  ihave H2 := (pointsTo_union (slots_disjoint M d d' h0 h1)).1 $$ H
  icases H2 with ⟨Ha, Hb⟩
  unfold anyIn
  isplitl [Ha]
  · iexists f; iexact Ha
  · iexists f; iexact Hb
omit [FloatOps F] in
/-- The two slots at any contents, as the buffer at any contents. -/
theorem slots_merge (hM : M.view.set = Finset.univ) (c : Dev nD) :
    (iprop(anyIn (slot M d) c ∗ anyIn (slot M d') c) : sProp 𝕄)
      ⊢ iprop(∃ f : Buf (Elt F) (M.view.loc (c : Thread nD τ)), (M.view.loc (c : Thread nD τ)) ↦{fullShare} f) := by
  rw [show (Finset.univ : Finset (Idx (M.view.loc (c : Thread nD τ)))) = (slot M d).view.set ∪ (slot M d').view.set from
    (slots_cover M d d' h0 h1).trans hM |>.symm]
  unfold anyIn
  iintro ⟨⟨%f, Ha⟩, ⟨%g, Hb⟩⟩
  iexists _
  iapply (pointsTo_join (slots_disjoint M d d' h0 h1))
  isplitl [Ha]; · iexact Ha
  iexact Hb

end Slots

/-! ## What a device starts from and ends with -/

/-- The cells of a direction at their start, and the tokens of the duties `c` pays there. -/
def deal (d : Fin 6) (c : Dev nD) : sProp 𝕄 :=
  iprop(atStart d c
    ∗ dutyTok ER (readyCell (peer (c, d)).1 (peer (c, d)).2) 0 ()
    ∗ dutyTok ER (sendCell c d) 0 ()
    ∗ dutyTok ER (recvCell (peer (c, d)).1 (peer (c, d)).2) 0 ())
/-- The credits of a direction at launch. -/
def creds (d : Fin 6) (c : Dev nD) : sProp 𝕄 := iprop(credIf d c 0 1 ∗ credIf d c 2 N)

omit [FloatOps F] in
theorem st0_intro (d : Fin 6) (c : Dev nD) : iprop(deal d c ∗ creds d c ∗ anyIn (hM d) c) ⊢ (st0 d c : sProp 𝕄) := by
  unfold deal creds st0
  iintro ⟨⟨Ha, H1, H2, H3⟩, ⟨C0, C2⟩, Hh⟩
  isplitl [Ha]; · iexact Ha
  isplitl [H1]; · iexact H1
  isplitl [H2]; · iexact H2
  isplitl [H3]; · iexact H3
  isplitl [C0]; · iexact C0
  isplitl [C2]; · iexact C2
  iexact Hh

/-- A device's share of the protocol's state under the names `K` of the invariants. -/
def ghost (K : Dev nD × Kx → ℕ) (c : Dev nD) : sProp 𝕄 :=
  iprop(records m ρ K ∗ (atPos ER (barCell c) 0 ∅ 0 ∗ dutyTok ER (barCell c) 0 ()) ∗ six (fun d => deal d c))
/-- With its credits and the levels: all a device's body starts from, but the buffers. -/
def start (c : Dev nD) : sProp 𝕄 :=
  iprop((∃ K, ghost m ρ K c) ∗ (cred (tallyAt (barCell c) () 1) ∗ six (fun d => creds d c)) ∗ levAts L lv)
/-- Before the body: that, and every slot at any contents. -/
def Φ₀ (c : Dev nD) : sProp 𝕄 := iprop(start m ρ c ∗ six (fun d => anyIn (hM d) c) ∗ six (fun d => anyIn (sM d) c))
/-- After the body: every counter at zero, every slot back. -/
def Φ₁ (c : Dev nD) : sProp 𝕄 := iprop(semVal (barCell c) 0 ∗ six (fun d => st4 d c))

/-! ## The run -/

/-- The body at a symbolic device: the result's block is `outAt`, every counter is back at zero. -/
theorem run_body (K : Dev nD × Kx → ℕ) (c : Dev nD) {Q : PUnit → sProp 𝕄} :
    iprop((ghost m ρ K c ∗ (cred (tallyAt (barCell c) () 1) ∗ six (fun d => creds d c)) ∗ levAts L lv)
        ∗ (six (fun d => anyIn (hM d) c) ∗ six (fun d => anyIn (sM d) c))
        ∗ ow c (O₀ c) ∗ inIs c (xstg m ρ c) ∗ (∃ o : Blk (F := F), outIs c o)
        ∗ ((Φ₁ c ∗ ow c 0 ∗ inIs c (xstg m ρ c) ∗ outIs c (outAt m ρ c)) -∗ Q ⟨⟩))
      ⊢ wp frame (wpE (defs₀ (F := F)) 𝒱₀ (c : Thread nD τ) none) Set.univ (cc0_body (Memref.whole cc0_stg0_0) (hstage0_0 0) (Memref.whole cc0_stg1_0) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) Q := by
  rw [show (cc0_body (Memref.whole cc0_stg0_0) (hstage0_0 0) (Memref.whole cc0_stg1_0) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 : KProg F PUnit) = _ from body_eq]
  simp only [Prog.lift, Prog.bind_op, Prog.bind_ret, wp_deviceId, Prog.pure_eq_ret]
  unfold ghost
  iintro ⟨⟨⟨#HR, ⟨Hb, Ht⟩, ⟨D0, D1, D2, D3, D4, D5⟩⟩, ⟨Hc, ⟨C0, C1, C2, C3, C4, C5⟩⟩, #Hlev⟩, ⟨⟨A0, A1, A2, A3, A4, A5⟩, ⟨S0, S1, S2, S3, S4, S5⟩⟩, HO, Hi, Ho, Hk⟩
  ihave H0 := (st0_intro 0 c) $$ [D0 C0 A0]
  · isplitl [D0]; · iexact D0
    isplitl [C0] <;> iassumption
  ihave H1 := (st0_intro 1 c) $$ [D1 C1 A1]
  · isplitl [D1]; · iexact D1
    isplitl [C1] <;> iassumption
  ihave H2 := (st0_intro 2 c) $$ [D2 C2 A2]
  · isplitl [D2]; · iexact D2
    isplitl [C2] <;> iassumption
  ihave H3 := (st0_intro 3 c) $$ [D3 C3 A3]
  · isplitl [D3]; · iexact D3
    isplitl [C3] <;> iassumption
  ihave H4 := (st0_intro 4 c) $$ [D4 C4 A4]
  · isplitl [D4]; · iexact D4
    isplitl [C4] <;> iassumption
  ihave H5 := (st0_intro 5 c) $$ [D5 C5 A5]
  · isplitl [D5]; · iexact D5
    isplitl [C5] <;> iassumption
  iapply (seg1 m ρ K c)
  isplitr; · iexact HR
  isplitr; · iexact Hlev
  isplitl [Hb Ht Hc HO Hi H0 H1 H2 H3 H4 H5]
  · isplitl [Hb Ht Hc]
    · unfold barPre
      isplitl [Hb]; · iexact Hb
      isplitl [Ht] <;> iassumption
    isplitl [HO]; · iexact HO
    isplitr [Hi]
    · isplitl [H0]; · iexact H0
      isplitl [H1]; · iexact H1
      isplitl [H2]; · iexact H2
      isplitl [H3]; · iexact H3
      isplitl [H4] <;> iassumption
    iexact Hi
  iintro ⟨Hb, HO, ⟨H0, H1, H2, H3, H4, H5⟩, Hi⟩
  iapply (seg2 c (xstg m ρ c))
  isplitl [S0 S1 S2 S3 S4 S5]
  · isplitl [S0]; · iexact S0
    isplitl [S1]; · iexact S1
    isplitl [S2]; · iexact S2
    isplitl [S3]; · iexact S3
    isplitl [S4] <;> iassumption
  iintro HS
  iapply (seg3 m ρ K c)
  isplitr; · iexact HR
  isplitr; · iexact Hlev
  isplitl [HO HS H0 H1 H2 H3 H4 H5]
  · isplitl [HO]; · iexact HO
    isplitr [HS]
    · isplitl [H0]; · iexact H0
      isplitl [H1]; · iexact H1
      isplitl [H2]; · iexact H2
      isplitl [H3]; · iexact H3
      isplitl [H4] <;> iassumption
    iexact HS
  iintro ⟨HO, HD⟩
  iapply (seg4 m ρ K c (xstg m ρ c))
  isplitr; · iexact HR
  isplitl [HO HD Ho]
  · isplitl [HO]; · iexact HO
    isplitl [HD] <;> iassumption
  iintro ⟨HO, Ho, HD⟩
  iapply (seg5 m ρ c (base (xstg m ρ c)))
  isplitl [Ho HD]
  · isplitl [Ho] <;> iassumption
  iintro ⟨Ho, ⟨H0, H1, H2, H3, H4, H5⟩⟩
  iapply (seg6 c _)
  isplitl [Ho]; · iexact Ho
  iintro Ho
  rw [wp_ret]
  imod (close_dir m ρ K 0 c) $$ [H0] with H0
  · isplitr; · iexact HR
    iexact H0
  imod (close_dir m ρ K 1 c) $$ [H1] with H1
  · isplitr; · iexact HR
    iexact H1
  imod (close_dir m ρ K 2 c) $$ [H2] with H2
  · isplitr; · iexact HR
    iexact H2
  imod (close_dir m ρ K 3 c) $$ [H3] with H3
  · isplitr; · iexact HR
    iexact H3
  imod (close_dir m ρ K 4 c) $$ [H4] with H4
  · isplitr; · iexact HR
    iexact H4
  imod (close_dir m ρ K 5 c) $$ [H5] with H5
  · isplitr; · iexact HR
    iexact H5
  imod (close_cell m ρ K c none 1 (duties_later m ρ c none)) $$ [Hb] with Hb
  · isplitr; · iexact HR
    iexact Hb
  imodintro
  iapply Hk
  unfold Φ₁
  isplitl [Hb H0 H1 H2 H3 H4 H5]
  · isplitl [Hb]; · iexact Hb
    isplitl [H0]; · iexact H0
    isplitl [H1]; · iexact H1
    isplitl [H2]; · iexact H2
    isplitl [H3]; · iexact H3
    isplitl [H4] <;> iassumption
  isplitl [HO]; · iexact HO
  isplitl [Hi]; · iexact Hi
  unfold outAt
  iexact Ho

/-! ## In the form the launch asks for -/

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The launch's data: the arrays at launch, the two staging buffers after the body, what is held before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer with the contents `X`, as the launch writes it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The body between the launch's conditions. -/
theorem sound_body (c : Dev nD) :
    bodyPre m ρ c ⊢ wp frame (wpE (defs₀ (F := F)) 𝒱₀ (c : Thread nD τ) none) Set.univ (cc0_body (Memref.whole cc0_stg0_0) (hstage0_0 0) (Memref.whole cc0_stg1_0) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) (fun _ => bodyPost m ρ c) := by
  unfold bodyPre Φ₀ start Dat.owesAt Pipeline.owesWithin
  iintro ⟨⟨⟨⟨%K, Hg⟩, Hc, Hlev⟩, Hslots⟩, ⟨%W, %hW, HO⟩, ⟨%d0, %g0, %hg0, Hi⟩, ⟨%d1, %g1, %hg1, Ho⟩⟩
  have hx : g0 = xstg m ρ c := by rw [hg0]; unfold Dat.before; rw [if_pos (fetch0_0 t₀)]; rfl
  subst hx
  iapply (run_body m ρ K c)
  isplitl [Hg Hc Hlev]
  · isplitl [Hg]; · iexact Hg
    isplitl [Hc] <;> iassumption
  isplitl [Hslots]; · iexact Hslots
  isplitl [HO]
  · unfold ow; iexists W; iexact HO
  isplitl [Hi]; · (unfold inIs; iexact Hi)
  isplitl [Ho]
  · iexists g1; unfold outIs; iexact Ho
  unfold bodyPost Dat.owesAt Pipeline.owesWithin ow inIs outIs
  iintro ⟨HΦ, ⟨%W', HO⟩, Hi, Ho⟩
  isplitl [HΦ]; · iexact HΦ
  isplitl [HO]
  · iexists W'
    isplitr; · ipureintro; exact fun _ _ => Or.inl trivial
    iexact HO
  isplitl [Hi]
  · iexists _; isplitr; · (ipureintro; rfl)
    iexact Hi
  iexists _; isplitr; · (ipureintro; rfl)
  iexact Ho

/-- The launch's obligation for the body. -/
theorem body_obligation (c : Dev nD) : BodyObligation (dats (F := F) m ρ 0 c) (defs₀ (F := F)) 𝒱₀ () Set.univ := fun t => by
  rw [fin_N t, bigSep_W0, bigSep_W0]
  have h := sound_body m ρ c
  unfold bodyPre bodyPost at h
  simp only [← owns_stg] at h
  exact h

end Cert.Halo

end

end
-- ==== Proof.Launch.lean ====
/-
# The launch

The protocol's cells and tokens are minted for every device; each token goes to the device that pays with it, which is the
other end of its link. What the devices owe one cell in all is the credit its owner starts with. `run_main` is the run of
the whole program on all devices, for any float values.
-/
module

public import proofs.«01_k».proof.Proof.Run
public import Idealize.ShloMosaic.Lib.Pipeline.CollectiveSegs

@[expose] public section

set_option maxRecDepth 65536

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Products over the protocol's indices -/

omit [FloatOps F] in
theorem bigSep_six (Φ : Fin 6 → sProp 𝕄) : bigSep Finset.univ Φ = six Φ :=
  bigSep_univ_eq_bigSepL [0, 1, 2, 3, 4, 5] (by decide) (by decide) Φ
omit [FloatOps F] in
/-- Over the protocol's semaphores: the barrier, and each kind over the directions. -/
theorem bigSep_Kx (Φ : Kx → sProp 𝕄) : bigSep Finset.univ Φ
    = iprop(Φ none ∗ (bigSep Finset.univ fun d => Φ (some (0, d))) ∗ (bigSep Finset.univ fun d => Φ (some (1, d))) ∗ (bigSep Finset.univ fun d => Φ (some (2, d)))) := by
  have hu : (Finset.univ : Finset Kx) = insert none (Finset.univ.map ⟨some, Option.some_injective _⟩) := by decide
  rw [hu, BI.bigSep_insert (by decide), bigSep_map, bigSep_univ_prod, bigSep_univ_eq_bigSepL [(0 : Fin 3), 1, 2] (by decide) (by decide)]
  rfl

/-! ## What all devices owe one cell -/

/-- What `c` owes its neighbour's cell of kind `j` in direction `d`. -/
def owedTo (j : Fin 3) (n : ℕ) (c : Dev nD) (d : Fin 6) : CellTallies nD τ sig Unit :=
  if Has d c then tallyAt (cellAt (nbr d c) (some (j, opp d))) () n else 0

theorem peer_has_iff (x : Dev nD × Fin 6) : Has (peer x).2 (peer x).1 ↔ Has x.2 x.1 := by
  obtain ⟨c, d⟩ := x
  by_cases h : Has d c
  · rw [peer_has h]; exact ⟨fun _ => h, fun _ => has_nbr h⟩
  · rw [show peer (c, d) = (c, d) from if_neg h]

theorem owedTo_apply (j : Fin 3) (n : ℕ) (x : Dev nD × Fin 6) (c : Dev nD) (k : Kx) :
    owedTo j n x.1 x.2 (cellAt c k) () = if Has x.2 x.1 ∧ c = (peer x).1 ∧ k = some (j, (peer x).2) then n else 0 := by
  obtain ⟨c', d'⟩ := x
  unfold owedTo
  by_cases h : Has d' c'
  · rw [if_pos h, tallyAt_apply, peer_has h]
    refine if_congr ⟨fun e => ⟨h, cellAt_inj.mp e.1⟩, fun e => ⟨cellAt_inj.mpr e.2, rfl⟩⟩ rfl rfl
  · rw [if_neg h, if_neg fun e => h e.1]; rfl

/-- All devices together owe a cell of kind `j` the amount once, if it is used. -/
theorem owedTo_sum (j : Fin 3) (n : ℕ) (c : Dev nD) (k : Kx) :
    ∑ c' : Dev nD, ∑ d' : Fin 6, owedTo j n c' d' (cellAt c k) () = if ∃ d, k = some (j, d) ∧ Has d c then n else 0 := by
  rw [← Fintype.sum_prod_type' (fun c' d' => owedTo j n c' d' (cellAt c k) ()), ← Equiv.sum_comp link]
  have e : ∀ x : Dev nD × Fin 6, owedTo j n (link x).1 (link x).2 (cellAt c k) () = if Has x.2 x.1 ∧ c = x.1 ∧ k = some (j, x.2) then n else 0 := fun x => by
    rw [owedTo_apply j n (link x) c k]
    show (if Has (peer x).2 (peer x).1 ∧ c = (peer (peer x)).1 ∧ k = some (j, (peer (peer x)).2) then n else 0) = _
    rw [peer_peer]
    exact if_congr (and_congr_left' (peer_has_iff x)) rfl rfl
  rw [Finset.sum_congr rfl fun x _ => e x]
  by_cases h : ∃ d, k = some (j, d) ∧ Has d c
  · rw [if_pos h]
    obtain ⟨d, rfl, hd⟩ := h
    rw [Fintype.sum_eq_single (c, d) fun x hx => if_neg fun ⟨_, h1, h2⟩ => hx (by
      have h3 : d = x.2 := congrArg Prod.snd (Option.some.inj h2)
      exact Prod.ext h1.symm h3.symm)]
    exact if_pos ⟨hd, rfl, rfl⟩
  · rw [if_neg h]
    exact Finset.sum_eq_zero fun x _ => if_neg fun ⟨h1, h2, h3⟩ => h ⟨x.2, h3, h2 ▸ h1⟩

theorem O₀_apply (c : Dev nD) (g : GSem nD τ sig) :
    O₀ c g () = (∑ d : Fin 6, owedTo 0 1 c d g ()) + (∑ d : Fin 6, owedTo 2 N c d g ()) + tallyAt (barCell c) () 1 g () := by
  have h0 : ∀ d, owedTo 0 1 c d = owedReady c d := fun _ => rfl
  have h2 : ∀ d, owedTo 2 N c d = owedRecv c d := fun _ => rfl
  unfold O₀ owedSignals owedCopies
  simp only [h0, h2, List.foldr, Pi.add_apply, Finsupp.add_apply, Pi.zero_apply, Finsupp.zero_apply, Fin.sum_univ_six]
  omega

/-- The credit of a cell at launch. -/
def due (c : Dev nD) : Kx → ℕ
  | none => 1
  | some (0, d) => if Has d c then 1 else 0
  | some (1, _) => 0
  | some (2, d) => if Has d c then N else 0

theorem owed_total (c : Dev nD) (k : Kx) : ∑ c' : Dev nD, O₀ c' (cellAt c k) () = due c k := by
  rw [Finset.sum_congr rfl fun c' _ => O₀_apply c' (cellAt c k), Finset.sum_add_distrib, Finset.sum_add_distrib, owedTo_sum, owedTo_sum]
  have hb : ∑ c' : Dev nD, tallyAt (barCell c') () 1 (cellAt c k) () = if k = none then 1 else 0 := by
    have e : ∀ c' : Dev nD, tallyAt (barCell c') () 1 (cellAt c k) () = if c = c' then (if k = none then 1 else 0) else 0 := fun c' => by
      rw [tallyAt_apply, ← ite_and]
      exact if_congr ⟨fun h => cellAt_inj.mp h.1, fun h => ⟨cellAt_inj.mpr h, rfl⟩⟩ rfl rfl
    rw [Finset.sum_congr rfl fun c' _ => e c', Finset.sum_ite_eq Finset.univ c, if_pos (Finset.mem_univ _)]
  rw [hb]
  rcases k with _ | ⟨j, d⟩
  · simp [due]
  · fin_cases j <;> simp [due]

omit [FloatOps F] in
theorem launch_credit (c : Dev nD) (k : Kx) :
    tallyOn (cellAt c k) (launchCredit (Pipeline.owing O₀) 0 (cellAt c k)) = (tallyAt (cellAt c k) () (due c k) : CellTallies nD τ sig Unit) := by
  unfold tallyAt; refine congrArg _ (Finsupp.ext fun u => ?_); cases u
  rw [Pipeline.launchCredit_owing, Finsupp.single_eq_same, owed_total]

omit [FloatOps F] in
theorem cred_if (d : Fin 6) (c : Dev nD) (k : Fin 3) (n : ℕ) :
    (cred (tallyAt (cellAt c (some (k, d))) () (if Has d c then n else 0)) : sProp 𝕄) ⊢ credIf d c k n := by
  unfold credIf
  by_cases h : Has d c
  · rw [if_pos h, if_pos h]
  · simp only [if_neg h]; iintro -; iempintro

omit [FloatOps F] in
/-- The launch's credits of a device hold those its body starts from. -/
theorem creds_intro (c : Dev nD) : (Pipeline.launchCred O₀ c : sProp 𝕄) ⊢ iprop(cred (tallyAt (barCell c) () 1) ∗ six (fun d => creds d c)) := by
  have h : (Pipeline.launchCred O₀ c : sProp 𝕄) ⊢ bigSep Finset.univ fun k : Kx => cred (tallyAt (cellAt c k) () (due c k)) := by
    unfold Pipeline.launchCred
    refine (BI.bigSep_subset (Finset.subset_univ (Finset.univ.map ⟨csem, csem_injective⟩))).trans ?_
    rw [bigSep_map]
    refine bigSep_mono fun k _ => ?_
    show (cred (tallyOn (cellAt c k) (launchCredit (Pipeline.owing O₀) 0 (cellAt c k))) : sProp 𝕄) ⊢ _
    rw [launch_credit]
  refine h.trans ?_
  rw [bigSep_Kx, ← bigSep_six]
  unfold creds
  rw [bigSep_sep']
  iintro ⟨Hb, H0, -, H2⟩
  isplitl [Hb]; · iexact Hb
  isplitl [H0]
  · iapply (show (bigSep Finset.univ fun d => cred (tallyAt (cellAt c (some (0, d))) () (due c (some (0, d)))) : sProp 𝕄) ⊢ bigSep Finset.univ fun d => credIf d c 0 1 from bigSep_mono fun d _ => cred_if (F := F) d c 0 1); iexact H0
  · iapply (show (bigSep Finset.univ fun d => cred (tallyAt (cellAt c (some (2, d))) () (due c (some (2, d)))) : sProp 𝕄) ⊢ bigSep Finset.univ fun d => credIf d c 2 N from bigSep_mono fun d _ => cred_if (F := F) d c 2 N); iexact H2

/-! ## Minting and dealing -/

theorem cells_injective : Function.Injective (fun x : Dev nD × Kx => cellAt x.1 x.2) := fun x y h => Prod.ext (cellAt_inj.mp h).1 (cellAt_inj.mp h).2
theorem toks_injective : Function.Injective (fun x : Dev nD × Kx => ((cellAt x.1 x.2, 0, ()) : GSem nD τ sig × ℕ × Unit)) :=
  fun x y h => cells_injective (congrArg Prod.fst h)
/-- Every cell of the protocol. -/
def haloCells : Finset (GSem nD τ sig) := Finset.univ.map ⟨_, cells_injective⟩
/-- One token for each. -/
def haloToks : Finset (GSem nD τ sig × ℕ × Unit) := Finset.univ.map ⟨_, toks_injective⟩

def u₀ : UU := (initOf (Pipeline.cells cfgs cellOf_inj) (Pipeline.launchToks cfgs cellOf_inj), initOf haloCells haloToks)

/-- What the launch deals device `c`: the state, the position and the token of each of its cells. -/
def G (c : Dev nD) : sProp 𝕄 :=
  iprop((bigSep Finset.univ fun k : Kx => roundState ER (haloRd m ρ) (cellAt c k) 0)
    ∗ (bigSep Finset.univ fun k : Kx => reached ER (cellAt c k) 0)
    ∗ (bigSep Finset.univ fun k : Kx => atPos ER (cellAt c k) 0 ∅ 0)
    ∗ (bigSep Finset.univ fun k : Kx => dutyTok ER (cellAt c k) 0 ()))
/-- What becomes of it once the tokens are where they are used. -/
def G' (c : Dev nD) : sProp 𝕄 := iprop(∃ K, ghost m ρ K c)

omit [FloatOps F] in
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Kx => Φ (cellAt c k) := by
    unfold haloCells; rw [bigSep_map, bigSep_univ_prod]; rfl
  have hT : bigSep haloToks (fun x => (dutyTok ER x.1 x.2.1 x.2.2 : sProp 𝕄)) = bigSep Finset.univ fun c : Dev nD => bigSep Finset.univ fun k : Kx => dutyTok ER (cellAt c k) 0 () := by
    unfold haloToks; rw [bigSep_map, bigSep_univ_prod]; rfl
  unfold G
  rw [bigSep_sep', bigSep_sep', bigSep_sep', ← hX fun g => roundState ER (haloRd m ρ) g 0, ← hX fun g => reached ER g 0, ← hX fun g => atPos ER g 0 ∅ 0, ← hT]
  exact Rounds.fund ER (haloRd m ρ) haloCells haloToks

theorem ownSemFacts : Pipeline.OwnSemFacts cfg0.spec osem := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun d => semVal (readyCell c d) 0) ∗ (bigSep Finset.univ fun d => semVal (sendCell c d) 0) ∗ (bigSep Finset.univ fun d => semVal (recvCell c d) 0)) := by
  unfold Pipeline.ownSems0
  rw [bigSep_univ_prod, bigSep_univ_eq_bigSepL [(0 : Fin 3), 1, 2] (by decide) (by decide)]
  rfl
omit [FloatOps F] in
/-- A device's semaphores at launch, as the protocol's cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kx => semVal (cellAt c k) 0 : sProp 𝕄) := by
  rw [ownSems0_eq, unscopedSems0_eq, bigSep_Kx]
  iintro ⟨HO, HB⟩
  isplitl [HB]; · iexact HB
  iexact HO

omit [FloatOps F] in
/-- A device's invariants are allocated from its counters and its cells' states. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (haloRd m ρ) κ (cellAt c k)))
          ∗ (bigSep Finset.univ fun k : Kx => reached ER (cellAt c k) 0)
          ∗ (bigSep Finset.univ fun k : Kx => atPos ER (cellAt c k) 0 ∅ 0)
          ∗ (bigSep Finset.univ fun k : Kx => dutyTok ER (cellAt c k) 0 ())) := by
  unfold G
  iintro ⟨Hos, Hus, Hst, Hrest⟩
  ihave Hv := (sems0_eq (F := F) c) $$ [Hos Hus]
  · isplitl [Hos] <;> iassumption
  imod (show iprop((bigSep Finset.univ fun k : Kx => semVal (cellAt c k) 0) ∗ bigSep Finset.univ fun k : Kx => roundState ER (haloRd m ρ) (cellAt c k) 0)
      ⊢ (|={Set.univ}=> bigSep Finset.univ fun k => iprop(∃ κ : ℕ, cellInv ER (haloRd m ρ) κ (cellAt c k)) : sProp 𝕄) from by
        rw [← bigSep_sep']
        exact (bigSep_mono fun k _ => (Rounds.body_intro ER (haloRd m ρ) (cellAt c k)).trans inv_alloc).trans (bigSep_fupd _ _)) $$ [Hv Hst] with Hinv
  · isplitl [Hv] <;> iassumption
  imodintro
  isplitl [Hinv]; · iexact Hinv
  iexact Hrest

omit [FloatOps F] in
/-- The tokens of one kind, each moved to the other end of its link. -/
theorem toks_across (j : Fin 3) :
    (bigSep Finset.univ fun c : Dev nD => bigSep Finset.univ fun d : Fin 6 => (dutyTok ER (cellAt c (some (j, d))) 0 () : sProp 𝕄))
      = bigSep Finset.univ fun c : Dev nD => bigSep Finset.univ fun d : Fin 6 => dutyTok ER (cellAt (peer (c, d)).1 (some (j, (peer (c, d)).2))) 0 () := by
  rw [← bigSep_univ_prod (fun x : Dev nD × Fin 6 => (dutyTok ER (cellAt x.1 (some (j, x.2))) 0 () : sProp 𝕄)), bigSep_univ_equiv link, bigSep_univ_prod]
  rfl

/-- What stays with one device. -/
def linear (c : Dev nD) : sProp 𝕄 := iprop((atPos ER (barCell c) 0 ∅ 0 ∗ dutyTok ER (barCell c) 0 ()) ∗ six (fun d => deal d c))

omit [FloatOps F] in
theorem G'_intro (K : Dev nD × Kx → ℕ) (c : Dev nD) : iprop(records m ρ K ∗ linear c) ⊢ G' m ρ c := by
  unfold G' ghost linear
  iintro H
  iexists K; iexact H

omit [FloatOps F] in
theorem deal_all :
    iprop((bigSep Finset.univ fun c : Dev nD => bigSep Finset.univ fun k : Kx => atPos ER (cellAt c k) 0 ∅ 0)
        ∗ (bigSep Finset.univ fun c : Dev nD => bigSep Finset.univ fun k : Kx => dutyTok ER (cellAt c k) 0 ()))
      ⊢ (bigSep Finset.univ fun c : Dev nD => linear c : sProp 𝕄) := by
  unfold linear deal atStart
  simp only [bigSep_Kx, ← bigSep_six, bigSep_sep']
  rw [toks_across 0, toks_across 2]
  iintro ⟨⟨Ab, A0, A1, A2⟩, ⟨Tb, T0, T1, T2⟩⟩
  isplitl [Ab Tb]
  · isplitl [Ab] <;> iassumption
  isplitl [A0 A1 A2]
  · isplitl [A0]; · iexact A0
    isplitl [A1] <;> iassumption
  isplitl [T0]; · iexact T0
  isplitl [T1] <;> iassumption

omit [FloatOps F] in
theorem regroup :
    (bigSep Finset.univ fun c : Dev nD => iprop((bigSep Finset.univ fun k => iprop(∃ κ : ℕ, cellInv ER (haloRd m ρ) κ (cellAt c k)))
          ∗ (bigSep Finset.univ fun k : Kx => reached ER (cellAt c k) 0)
          ∗ (bigSep Finset.univ fun k : Kx => atPos ER (cellAt c k) 0 ∅ 0)
          ∗ (bigSep Finset.univ fun k : Kx => dutyTok ER (cellAt c k) 0 ())) : sProp 𝕄)
      ⊢ bigSep Finset.univ (G' m ρ) := by
  rw [bigSep_sep', bigSep_sep', bigSep_sep', ← bigSep_univ_prod (fun x : Dev nD × Kx => iprop(∃ κ : ℕ, cellInv ER (haloRd m ρ) κ (cellAt x.1 x.2))),
    ← bigSep_univ_prod (fun x : Dev nD × Kx => (reached ER (cellAt x.1 x.2) 0 : sProp 𝕄))]
  iintro ⟨HI, #HR, Hat, Htok⟩
  ihave HK := (BI.bigSep_exists_pi Finset.univ (fun (x : Dev nD × Kx) (κ : ℕ) => (cellInv ER (haloRd m ρ) κ (cellAt x.1 x.2) : sProp 𝕄))) $$ HI
  icases HK with ⟨%K, #HI⟩
  ihave Hl := (deal_all (F := F)) $$ [Hat Htok]
  · isplitl [Hat] <;> iassumption
  iapply (show iprop(records m ρ K ∗ bigSep Finset.univ fun c : Dev nD => linear c) ⊢ bigSep Finset.univ (G' m ρ) from
    (sep_mono_left (BI.bigSep_of_persistent Finset.univ (records m ρ K))).trans (by
      rw [← bigSep_sep']
      exact bigSep_mono fun c _ => G'_intro m ρ K c))
  isplitr
  · unfold records; isplitl; · iexact HI
    iexact HR
  · iexact Hl

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's conditions -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

/-- The six two-slot buffers at any contents are the twelve slots at any contents, each way. -/
theorem buffers_split (c : Dev nD) : (Pipeline.scopedRest cfg0.spec c : sProp 𝕄) ⊢ iprop(six (fun d => anyIn (hM d) c) ∗ six (fun d => anyIn (sM d) c)) := by
  rw [scopedRest0_eq]
  iintro ⟨B0, B1, B2, B3, B4, B5⟩
  ihave X := (slots_split (Memref.whole cc0_scratch0) 0 1 rfl rfl (View.set_whole _) c) $$ B0
  ihave HX := (slots_split (Memref.whole cc0_scratch1) 0 1 rfl rfl (View.set_whole _) c) $$ B1
  ihave HY := (slots_split (Memref.whole cc0_scratch2) 2 3 rfl rfl (View.set_whole _) c) $$ B2
  ihave HZ := (slots_split (Memref.whole cc0_scratch3) 4 5 rfl rfl (View.set_whole _) c) $$ B3
  ihave Y := (slots_split (Memref.whole cc0_scratch4) 2 3 rfl rfl (View.set_whole _) c) $$ B4
  ihave Z := (slots_split (Memref.whole cc0_scratch5) 4 5 rfl rfl (View.set_whole _) c) $$ B5
  icases X with ⟨X0, X1⟩; icases Y with ⟨Y0, Y1⟩; icases Z with ⟨Z0, Z1⟩
  icases HX with ⟨HX0, HX1⟩; icases HY with ⟨HY0, HY1⟩; icases HZ with ⟨HZ0, HZ1⟩
  isplitl [HX0 HX1 HY0 HY1 HZ0 HZ1]
  · isplitl [HX0]; · iexact HX0
    isplitl [HX1]; · iexact HX1
    isplitl [HY0]; · iexact HY0
    isplitl [HY1]; · iexact HY1
    isplitl [HZ0]; · iexact HZ0
    iexact HZ1
  · isplitl [X0]; · iexact X0
    isplitl [X1]; · iexact X1
    isplitl [Y0]; · iexact Y0
    isplitl [Y1]; · iexact Y1
    isplitl [Z0]; · iexact Z0
    iexact Z1

theorem buffers_merge (c : Dev nD) : iprop((bigSep Finset.univ fun d => anyIn (hM d) c) ∗ (bigSep Finset.univ fun d => anyIn (sM d) c)) ⊢ (Pipeline.scopedRest cfg0.spec c : sProp 𝕄) := by
  rw [scopedRest0_eq, bigSep_six, bigSep_six]
  iintro ⟨⟨HX0, HX1, HY0, HY1, HZ0, HZ1⟩, ⟨X0, X1, Y0, Y1, Z0, Z1⟩⟩
  isplitl [X0 X1]
  · iapply (slots_merge (Memref.whole cc0_scratch0) 0 1 rfl rfl (View.set_whole _) c)
    isplitl [X0]; · iexact X0
    iexact X1
  isplitl [HX0 HX1]
  · iapply (slots_merge (Memref.whole cc0_scratch1) 0 1 rfl rfl (View.set_whole _) c)
    isplitl [HX0]; · iexact HX0
    iexact HX1
  isplitl [HY0 HY1]
  · iapply (slots_merge (Memref.whole cc0_scratch2) 2 3 rfl rfl (View.set_whole _) c)
    isplitl [HY0]; · iexact HY0
    iexact HY1
  isplitl [HZ0 HZ1]
  · iapply (slots_merge (Memref.whole cc0_scratch3) 4 5 rfl rfl (View.set_whole _) c)
    isplitl [HZ0]; · iexact HZ0
    iexact HZ1
  isplitl [Y0 Y1]
  · iapply (slots_merge (Memref.whole cc0_scratch4) 2 3 rfl rfl (View.set_whole _) c)
    isplitl [Y0]; · iexact Y0
    iexact Y1
  · iapply (slots_merge (Memref.whole cc0_scratch5) 4 5 rfl rfl (View.set_whole _) c)
    isplitl [Z0]; · iexact Z0
    iexact Z1

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  show _ ⊢ Φ₀ m ρ c
  unfold Φ₀
  iintro ⟨Hs, -, Hr⟩
  isplitl [Hs]; · iexact Hs
  iapply (buffers_split (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  show Φ₁ c ⊢ _
  rw [ownSems0_eq, unscopedSems0_eq]
  unfold Φ₁ st4
  rw [← bigSep_six]
  simp only [bigSep_sep']
  iintro ⟨HB, ⟨H0, H1, H2⟩, Hh, Hs⟩
  isplitl [HB]; · iexact HB
  isplitl [H0 H1 H2]
  · isplitl [H0]; · iexact H0
    isplitl [H1] <;> iassumption
  iapply (buffers_merge (F := F) c)
  isplitl [Hh] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run of the program -/

/-- A window's array after the run. -/
def finalA (c : Dev nD) (w : Fin cfg0.W) : Buf (Elt F) ((cfg0.win w).arr.view.loc (c : Thread nD τ)) := (dats m ρ 0 c).arrAt w cfg0.N

/-- Every window's array holds its final contents on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair execution on the thirty-two devices terminates, with the arrays as
    computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array after the run holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.Halo

end

end
-- ==== Proof.Frames.lean ====
/-
# The programs run

Each of the three programs terminates without a fault, leaves its argument as it was and every semaphore counter at zero.
The kernel as printed and the kernel read over the extended reals are one text, so one run serves both.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Halo

open Idealize.ShloMosaic Idealize.ShloMosaic.TcCoe Idealize.SL Idealize.SL.Sem

/-- The two programs' body at the TensorCore is one text. -/
theorem body_same (x) : (Cert.Kernel.defs₀ (F := Bits)) .tc (0 : Fin 1) x = (Cert.KernelIdeal.defs₀ (F := Bits)) .tc (0 : Fin 1) x := by
  obtain ⟨t, s⟩ := x
  rfl

/-- The two programs' body tables agree on every processor. -/
theorem table_same : (Cert.Kernel.defs₀ (F := Bits)) = (Cert.KernelIdeal.defs₀ (F := Bits)) := by
  funext p l x
  match p, l, x with
  | .tc, 0, x => exact body_same x
  | .scScalar _, _, _ => rfl
  | .scVector _ _, _, _ => rfl

/-- The two programs' tables agree once the pipeline's own entries are added. -/
theorem defs_same : (Cert.Kernel.defs (F := Bits)) = (Cert.KernelIdeal.defs (F := Bits)) :=
  congrArg (Pipeline.defs (Cert.KernelIdeal.pcfgs (F := Bits))) table_same

/-- The kernel at the bit-exact floats. -/
theorem frame_kernel : Cert.quiescent_Kernel := fun m ρ _ =>
  (congrArg (fun D => (θ_run D (onTc (τ := Cert.Kernel.τ) (Cert.Kernel.main (F := Bits))) ⟨m, fun _ => 0, ρ⟩) (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0)) defs_same).mpr
    ((θ_run Cert.KernelIdeal.defs _ _).mono (fun _ h => ⟨fun c => (h.1 c (0 : Fin 2)).trans (finalA_in m ρ c), h.2⟩)
      (run_main (F := Bits) m ρ))

/-- The kernel over the extended reals. -/
theorem frame_kernelIdeal : Cert.quiescent_KernelIdeal := fun m ρ _ =>
  (θ_run Cert.KernelIdeal.defs _ _).mono (fun _ h => ⟨fun c => (h.1 c (0 : Fin 2)).trans (finalA_in m ρ c), h.2⟩) (run_main (F := Ideal) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Halo

end

end
-- ==== Proof.Value.lean ====
/-
# What each device ends holding

Over the extended reals both programs compute one thing: zero on the outer surface of the whole array, and inside it the sum
of an element's six neighbours less six times the element. The reference does so by slices of the whole array. A device does
so by slices of its own block, in which the neighbours beyond a face count as zero, and adds the neighbour device's face
afterwards; the theorems here say that the two sums have the same terms.
-/
module

public import proofs.«01_k».proof.Proof.Frames
public import Idealize.ShloMosaic.Lib.Pointwise
public import Idealize.ShloMosaic.Lib.Layout

@[expose] public section

set_option maxRecDepth 16384

noncomputable section

namespace Cert.Halo

open Idealize.ShloMosaic Idealize.ShloMosaic.TcCoe Idealize.SL Idealize.SL.Sem

/-! ## Elements by their coordinates -/

/-- The element at the coordinates `n`, and zero if there is none. -/
def look {s : Shape} (x : s.Idx → EReal) (n : Fin s.rank → ℕ) : EReal :=
  if h : ∀ a, n a < s.size a then x (fun a => ⟨n a, h a⟩) else 0

theorem look_eq {s : Shape} (x : s.Idx → EReal) (n : Fin s.rank → ℕ) (i : s.Idx) (h : ∀ a, (i a).val = n a) : look x n = x i := by
  obtain rfl : (fun a => (i a).val) = n := funext h
  exact dif_pos fun a => (i a).isLt

theorem idx3 {p q r : ℕ} (i : (⟨3, ![p, q, r]⟩ : Shape).Idx) : ∃ (a : Fin p) (b : Fin q) (e : Fin r), i = ix3 a b e := ⟨i 0, i 1, i 2, eq_ix3 i⟩

/-- The coordinates one step further in direction `d`. -/
def moved (d : Fin 6) (n : Fin 3 → ℕ) : Fin 3 → ℕ := fun a => if a = axis d then (if side d = 0 then n a - 1 else n a + 1) else n a

/-- The number six, as the kernel's constant writes it. -/
abbrev sixR : EReal := Ideal.ofBits .bf16 0x40C0#16

/-- The reference's six is the kernel's. -/
theorem six_f32 : Ideal.ofBits .f32 0x40C00000#32 = sixR := by
  have h1 : Ideal.ofBits .f32 0x40C00000#32 = ((6 : ℝ) : EReal) := by
    simp [Ideal.ofBits, Ideal.ieee, -EReal.coe_mul]; norm_num
  have h2 : sixR = ((6 : ℝ) : EReal) := by
    simp [Ideal.ofBits, Ideal.ieee, -EReal.coe_mul]; norm_num
  exact h1.trans h2.symm

/-- The coordinates `n` lie on the outer surface of the whole array in direction `d`. -/
def Outer (d : Fin 6) (n : Fin 3 → ℕ) : Prop := n (axis d) = if side d = 0 then 0 else 32 * extent (axis d) - 1

/-- The six neighbours' sum, less six times the element. -/
def inside {s : Shape} (hs : s.rank = 3) (x : s.Idx → EReal) (n : Fin 3 → ℕ) : EReal :=
  let at' : (Fin 3 → ℕ) → EReal := fun k => look x (fun a => k (a.cast hs))
  at' (moved 0 n) + at' (moved 1 n) + at' (moved 2 n) + at' (moved 3 n) + at' (moved 4 n) + at' (moved 5 n) - sixR * at' n

/-! ## The reference -/

section Reference
open Cert.ReferenceIdeal Cert.ReferenceIdeal.Gen

/-- The reference's operations, composed. -/
def refTerm (X : FVec Ideal S64x128x128 .bf16) : FVec Ideal S64x128x128 .bf16 :=
  truncf .bf16 (pad S64x128x128 ![1, 1, 1] ![1, 1, 1] ![0, 0, 0] (subf (addf (addf (addf (addf (addf (extractStridedSlice S62x126x126 ![0, 1, 1] (extf .f32 X bitsLt_bf16_f32) slices_S64x128x128_S62x126x126_0_1_1) (extractStridedSlice S62x126x126 ![2, 1, 1] (extf .f32 X bitsLt_bf16_f32) slices_S64x128x128_S62x126x126_2_1_1)) (extractStridedSlice S62x126x126 ![1, 0, 1] (extf .f32 X bitsLt_bf16_f32) slices_S64x128x128_S62x126x126_1_0_1)) (extractStridedSlice S62x126x126 ![1, 2, 1] (extf .f32 X bitsLt_bf16_f32) slices_S64x128x128_S62x126x126_1_2_1)) (extractStridedSlice S62x126x126 ![1, 1, 0] (extf .f32 X bitsLt_bf16_f32) slices_S64x128x128_S62x126x126_1_1_0)) (extractStridedSlice S62x126x126 ![1, 1, 2] (extf .f32 X bitsLt_bf16_f32) slices_S64x128x128_S62x126x126_1_1_2)) (mulf (broadcastInDim S62x126x126 ![] bcast_S_S62x126x126 (constant S_ .f32 0x40C00000#32)) (extractStridedSlice S62x126x126 ![1, 1, 1] (extf .f32 X bitsLt_bf16_f32) slices_S64x128x128_S62x126x126_1_1_1))) (sitofp .f32 (constantI S_ 32 0#32)) pads_S62x126x126_S64x128x128_110_110_110 h_S_) bitsLt_bf16_f32

/-- The reference at an element of the outer surface. -/
theorem ref_outer (X : FVec Ideal S64x128x128 .bf16) (i : S64x128x128.Idx) (h : ∃ d, Outer d fun a => (i a).val) : refTerm X i = 0 := by
  obtain ⟨a, b, e, rfl⟩ := idx3 i
  pointwise [refTerm]
  rw [dif_neg]
  · show ((((0#32 : BitVec 32).toInt : ℝ)) : EReal) = 0
    simp
  · rintro ⟨⟨h1, h2⟩, ⟨h3, h4⟩, h5, h6⟩
    obtain ⟨d, hd⟩ := h
    have ha := a.isLt; have hb := b.isLt; have he := e.isLt
    fin_cases d
    · have : a.val = 0 := hd
      omega
    · have : a.val = 63 := hd
      omega
    · have : b.val = 0 := hd
      omega
    · have : b.val = 127 := hd
      omega
    · have : e.val = 0 := hd
      omega
    · have : e.val = 127 := hd
      omega

/-- The reference at an element inside. -/
theorem ref_inside (X : FVec Ideal S64x128x128 .bf16) (i : S64x128x128.Idx) (h : ¬ ∃ d, Outer d fun a => (i a).val) :
    refTerm X i = inside rfl X fun a => (i a).val := by
  obtain ⟨a, b, e, rfl⟩ := idx3 i
  have ha := a.isLt; have hb := b.isLt; have he := e.isLt
  have o0 : a.val ≠ 0 := fun h' => h ⟨0, h'⟩
  have o1 : a.val ≠ 63 := fun h' => h ⟨1, h'⟩
  have o2 : b.val ≠ 0 := fun h' => h ⟨2, h'⟩
  have o3 : b.val ≠ 127 := fun h' => h ⟨3, h'⟩
  have o4 : e.val ≠ 0 := fun h' => h ⟨4, h'⟩
  have o5 : e.val ≠ 127 := fun h' => h ⟨5, h'⟩
  pointwise [refTerm]
  rw [dif_pos (by omega), six_f32]
  have key : ∀ (n : Fin 3 → ℕ) (a' : Fin 64) (b' e' : Fin 128), n 0 = a'.val → n 1 = b'.val → n 2 = e'.val →
      X (ix3 a' b' e') = look X n := fun n a' b' e' h0 h1 h2 =>
    (look_eq X n (ix3 a' b' e') fun k => by
      fin_cases k
      · exact h0.symm
      · exact h1.symm
      · exact h2.symm).symm
  unfold inside
  refine congr (congrArg _ (congr (congrArg _ (congr (congrArg _ (congr (congrArg _ (congr (congrArg _ (congr (congrArg _ ?_) ?_)) ?_)) ?_)) ?_)) ?_)) (congrArg _ ?_)
  all_goals
    refine key _ _ _ _ ?_ ?_ ?_ <;> simp [moved, axis, side, ix3] <;> omega

end Reference

/-! ## The kernel -/

section Kernel
open Cert.KernelIdeal Cert.KernelIdeal.Gen

/-- The neighbour of an element inside its block, and zero beyond the block. -/
def inner (d : Fin 6) (x : FVec Ideal S32x32x32 .bf16) (i : S32x32x32.Idx) : EReal :=
  if (i (axis d)).val = edge d then 0 else look x (moved d fun a => (i a).val)

theorem inner_of (d : Fin 6) (x : FVec Ideal S32x32x32 .bf16) (i : S32x32x32.Idx) (y : EReal) (h0 : (i (axis d)).val = edge d → y = 0)
    (h1 : (i (axis d)).val ≠ edge d → ∃ j : S32x32x32.Idx, (∀ a, (j a).val = moved d (fun a => (i a).val) a) ∧ y = x j) : y = inner d x i := by
  unfold inner
  by_cases h : (i (axis d)).val = edge d
  · rw [if_pos h]; exact h0 h
  · rw [if_neg h]
    obtain ⟨j, hj, rfl⟩ := h1 h
    exact (look_eq x _ j hj).symm

/-- The sum a device forms in its own block. -/
theorem base_at (x : FVec Ideal S32x32x32 .bf16) (i : S32x32x32.Idx) :
    base (F := Ideal) x i = inner 0 x i + inner 1 x i + inner 2 x i + inner 3 x i + inner 4 x i + inner 5 x i - sixR * x i := by
  obtain ⟨a, b, e, rfl⟩ := idx3 i
  have ha := a.isLt; have hb := b.isLt; have he := e.isLt
  pointwise [base, k0_pay13, k0_pay3, k0_pay11, k0_pay12]
  refine congr (congrArg _ (congr (congrArg _ (congr (congrArg _ (congr (congrArg _ (congr (congrArg _ (congr (congrArg _ ?_) ?_)) ?_)) ?_)) ?_)) ?_)) rfl
  · exact inner_of 0 x _ _ (fun h => dif_pos (by have h' : a.val = 0 := h; omega)) fun h => ⟨_, fun k => by fin_cases k <;> rfl, dif_neg (by have h' : a.val ≠ 0 := h; omega)⟩
  · exact inner_of 1 x _ _ (fun h => dif_neg (by have h' : a.val = 31 := h; omega)) fun h => ⟨_, fun k => by fin_cases k <;> first | rfl | exact Nat.add_comm 1 _, dif_pos (by have h' : a.val ≠ 31 := h; omega)⟩
  · exact inner_of 2 x _ _ (fun h => dif_pos (by have h' : b.val = 0 := h; omega)) fun h => ⟨_, fun k => by fin_cases k <;> rfl, dif_neg (by have h' : b.val ≠ 0 := h; omega)⟩
  · exact inner_of 3 x _ _ (fun h => dif_neg (by have h' : b.val = 31 := h; omega)) fun h => ⟨_, fun k => by fin_cases k <;> first | rfl | exact Nat.add_comm 1 _, dif_pos (by have h' : b.val ≠ 31 := h; omega)⟩
  · exact inner_of 4 x _ _ (fun h => dif_pos (by have h' : e.val = 0 := h; omega)) fun h => ⟨_, fun k => by fin_cases k <;> rfl, dif_neg (by have h' : e.val ≠ 0 := h; omega)⟩
  · exact inner_of 5 x _ _ (fun h => dif_neg (by have h' : e.val = 31 := h; omega)) fun h => ⟨_, fun k => by fin_cases k <;> first | rfl | exact Nat.add_comm 1 _, dif_pos (by have h' : e.val ≠ 31 := h; omega)⟩

/-- Device `c`'s block of the whole array. -/
abbrev part (c : Dev nD) {α : Type} (X : (⟨3, ![64, 128, 128]⟩ : Shape).Idx → α) : (⟨3, ![32, 32, 32]⟩ : Shape).Idx → α :=
  Layout.blockN ⟨3, ![32, 32, 32]⟩ ⟨3, ![64, 128, 128]⟩ (Layout.meshBlock [2, 4, 4] ![[0], [1], [2]] c) X

/-- The coordinates in the whole array of the element of device `c`'s block at the coordinates `n`. -/
def gpos (c : Dev nD) (n : Fin 3 → ℕ) : Fin 3 → ℕ := fun a => coord a c * 32 + n a

theorem mesh_coord (c : Dev nD) (a : Fin 3) : ((Layout.meshBlock [2, 4, 4] ![[0], [1], [2]] c) a).val = coord a c := by
  revert c a; decide +kernel

theorem coord_lt (c : Dev nD) (a : Fin 3) : coord a c < extent a := by revert c a; decide +kernel

/-- The neighbour's coordinates in the mesh are one step further. -/
theorem coord_nbr {d : Fin 6} {c : Dev nD} (h : Has d c) (a : Fin 3) : coord a (nbr d c) = moved d (fun a => coord a c) a := by
  revert d c a; decide +kernel

/-- An element of a block stands in the whole array at its coordinates there. -/
theorem part_at (c : Dev nD) (i : S32x32x32.Idx) : ∃ j : (⟨3, ![64, 128, 128]⟩ : Shape).Idx,
    (∀ X : FVec Ideal ⟨3, ![64, 128, 128]⟩ .bf16, part c X i = X j) ∧ (fun a => (j a).val) = gpos c fun a => (i a).val := by
  refine ⟨_, fun X => rfl, funext fun a => ?_⟩
  show ((Layout.meshBlock [2, 4, 4] ![[0], [1], [2]] c) a).val * S32x32x32.size a + (i a).val = coord a c * 32 + (i a).val
  rw [mesh_coord]
  have : S32x32x32.size a = 32 := by fin_cases a <;> rfl
  exact congrArg (fun k => coord a c * k + (i a).val) this

theorem part_apply (c : Dev nD) (X : FVec Ideal ⟨3, ![64, 128, 128]⟩ .bf16) (i : S32x32x32.Idx) (n : Fin 3 → ℕ) (h : ∀ a, gpos c (fun a => (i a).val) a = n a) :
    part c X i = look X n := by
  obtain ⟨j, hj, hv⟩ := part_at c i
  rw [hj]
  exact (look_eq X n j fun a => (congrFun hv a).trans (h a)).symm

/-- A direction's side and the positions of the outermost planes there and opposite. -/
theorem edges (d : Fin 6) : (side d = 0 ∧ edge d = 0 ∧ edge (opp d) = 31) ∨ (side d = 1 ∧ edge d = 31 ∧ edge (opp d) = 0) := by
  revert d; decide

theorem onPlane_val (d : Fin 6) (i : S32x32x32.Idx) (a : Fin 3) :
    (onPlane (opp d) (inPlane d i) a).val = if a = axis d then edge (opp d) else (i a).val := by
  fin_cases d <;> fin_cases a <;> rfl

theorem idx_lt (i : S32x32x32.Idx) (a : Fin 3) : (i a).val < 32 := by
  have := (i a).isLt
  have e : S32x32x32.size a = 32 := by fin_cases a <;> rfl
  omega

/-- An element lies on the outer surface exactly if it lies on an outermost plane of its block and no device is beyond. -/
theorem outer_iff (d : Fin 6) (c : Dev nD) (i : S32x32x32.Idx) :
    Outer d (gpos c fun a => (i a).val) ↔ ((i (axis d)).val = edge d ∧ ¬ Has d c) := by
  have h1 := coord_lt c (axis d)
  have h2 := idx_lt i (axis d)
  unfold Outer gpos Has
  rcases edges d with ⟨e1, e2, _⟩ | ⟨e1, e2, _⟩ <;> rw [e2] <;> simp only [e1, if_true, Nat.one_ne_zero, if_false] <;> omega

/-- What the exchange adds to an element from direction `d`. -/
def added (X : FVec Ideal ⟨3, ![64, 128, 128]⟩ .bf16) (d : Fin 6) (c : Dev nD) (i : S32x32x32.Idx) : EReal :=
  if (i (axis d)).val = edge d ∧ Has d c then part (nbr d c) X (onPlane (opp d) (inPlane d i)) else 0

/-- Inside the whole array, the neighbour counted in the block and the neighbour the exchange adds are together the neighbour. -/
theorem inner_added (X : FVec Ideal ⟨3, ![64, 128, 128]⟩ .bf16) (d : Fin 6) (c : Dev nD) (i : S32x32x32.Idx)
    (h : ¬ Outer d (gpos c fun a => (i a).val)) :
    inner d (part c X) i + added X d c i = look X (moved d (gpos c fun a => (i a).val)) := by
  rw [outer_iff] at h
  unfold inner added
  by_cases he : (i (axis d)).val = edge d
  · have hh : Has d c := by by_contra hn; exact h ⟨he, hn⟩
    rw [if_pos he, if_pos ⟨he, hh⟩, zero_add]
    refine part_apply _ _ _ _ fun a => ?_
    show coord a (nbr d c) * 32 + (onPlane (opp d) (inPlane d i) a).val = moved d (gpos c fun a => (i a).val) a
    rw [coord_nbr hh, onPlane_val]
    unfold moved gpos
    by_cases ha : a = axis d
    · subst ha
      have h2 : Has d c := hh
      unfold Has at h2
      rcases edges d with ⟨e1, e2, e3⟩ | ⟨e1, e2, e3⟩ <;> rw [e3] <;> simp only [e1, if_true, Nat.one_ne_zero, if_false] at h2 ⊢ <;> rw [he, e2] <;> omega
    · simp only [if_neg ha]
  · rw [if_neg he, if_neg fun h' => he h'.1, add_zero]
    have hb : ∀ a : Fin 3, moved d (fun a => (i a).val) a < S32x32x32.size a := fun a => by
      have hs : S32x32x32.size a = 32 := by fin_cases a <;> rfl
      have h2 := idx_lt i a
      rw [hs]; unfold moved
      by_cases ha : a = axis d
      · subst ha
        rcases edges d with ⟨e1, e2, e3⟩ | ⟨e1, e2, e3⟩ <;> simp only [e1, if_true, Nat.one_ne_zero, if_false] <;> omega
      · simp only [if_neg ha]; exact h2
    refine (look_eq (s := S32x32x32) (part c X) _ (fun a => ⟨_, hb a⟩) fun a => rfl).trans ?_
    refine part_apply _ _ _ _ fun a => ?_
    show coord a c * 32 + moved d (fun a => (i a).val) a = moved d (gpos c fun a => (i a).val) a
    unfold moved gpos
    by_cases ha : a = axis d
    · subst ha
      rcases edges d with ⟨e1, e2, e3⟩ | ⟨e1, e2, e3⟩ <;> simp only [e1, if_true, Nat.one_ne_zero, if_false] <;> omega
    · simp only [if_neg ha]

/-! ## The result -/

variable (m : (ℓ : Loc nD τ sig) → Buf (Elt Ideal) ℓ) (ρ : Dev nD → PrngReg)

theorem addIf_at (X : FVec Ideal ⟨3, ![64, 128, 128]⟩ .bf16) (hX : ∀ c, xstg m ρ c = part c X) (d : Fin 6) (c : Dev nD) (o : FVec Ideal S32x32x32 .bf16)
    (i : S32x32x32.Idx) : addIf m ρ d c o i = (show EReal from o i) + added X d c i := by
  unfold addIf added
  by_cases hh : Has d c
  · rw [if_pos hh]
    unfold addFace
    by_cases he : (i (axis d)).val = edge d
    · rw [if_pos he, if_pos ⟨he, hh⟩, ← hX]; rfl
    · rw [if_neg he, if_neg fun h' => he h'.1, add_zero]
  · rw [if_neg hh, if_neg fun h' => hh h'.2, add_zero]

theorem zeroIf_at (d : Fin 6) (c : Dev nD) (o : FVec Ideal S32x32x32 .bf16) (i : S32x32x32.Idx) [Decidable (Outer d (gpos c fun a => (i a).val))] :
    zeroIf (F := Ideal) d c o i = if Outer d (gpos c fun a => (i a).val) then (0 : EReal) else o i := by
  have e := outer_iff d c i
  unfold zeroIf
  by_cases hh : Has d c
  · rw [if_pos hh, if_neg fun h' => (e.mp h').2 hh]
  · rw [if_neg hh]
    unfold zeroFace
    by_cases he : (i (axis d)).val = edge d
    · rw [if_pos he, if_pos (e.mpr ⟨he, hh⟩)]; exact Ideal.ofBits_zero_bf16
    · rw [if_neg he, if_neg fun h' => he (e.mp h').1]

/-- The additions after the subtraction, and the terms they complete. -/
theorem sum_pairs (a₀ a₁ a₂ a₃ a₄ a₅ b₀ b₁ b₂ b₃ b₄ b₅ s : EReal) :
    a₀ + a₁ + a₂ + a₃ + a₄ + a₅ - s + b₀ + b₁ + b₂ + b₃ + b₄ + b₅
      = (a₀ + b₀) + (a₁ + b₁) + (a₂ + b₂) + (a₃ + b₃) + (a₄ + b₄) + (a₅ + b₅) - s := by
  rw [sub_eq_add_neg, sub_eq_add_neg]
  ac_rfl

set_option maxHeartbeats 1000000 in
/-- A device's result is its block of the reference's. -/
theorem out_eq (X : FVec Ideal ⟨3, ![64, 128, 128]⟩ .bf16) (hX : ∀ c, xstg m ρ c = part c X) (c : Dev nD) : outAt m ρ c = part c (refTerm X) := by
  classical
  funext i
  obtain ⟨j, hj, hv⟩ := part_at c i
  rw [hj]
  unfold outAt
  rw [zeroIf_at, zeroIf_at, zeroIf_at, zeroIf_at, zeroIf_at, zeroIf_at]
  by_cases h : ∃ d, Outer d (gpos c fun a => (i a).val)
  · rw [ref_outer X j (by rw [hv]; exact h)]
    obtain ⟨d, hd⟩ := h
    fin_cases d <;> simp only [Fin.reduceFinMk, Fin.zero_eta, Fin.mk_one] at hd <;> simp only [hd, if_true, ite_self]
  · have hn : ∀ d, ¬ Outer d (gpos c fun a => (i a).val) := fun d hd => h ⟨d, hd⟩
    rw [ref_inside X j (by rw [hv]; exact h), hv]
    rw [if_neg (hn 5), if_neg (hn 4), if_neg (hn 3), if_neg (hn 2), if_neg (hn 1), if_neg (hn 0)]
    have ha := addIf_at m ρ X hX
    rw [ha 5, ha 4, ha 3, ha 2, ha 1, ha 0, hX, base_at]
    have hk := fun d => (inner_added X d c i (hn d)).symm
    have h6 : part c X i = look X (gpos c fun a => (i a).val) := part_apply _ _ _ _ fun a => rfl
    unfold inside
    show _ = look X (moved 0 _) + look X (moved 1 _) + look X (moved 2 _) + look X (moved 3 _) + look X (moved 4 _) + look X (moved 5 _) - sixR * look X _
    rw [hk 0, hk 1, hk 2, hk 3, hk 4, hk 5]
    exact (sum_pairs _ _ _ _ _ _ _ _ _ _ _ _ _).trans (congrArg (fun y : EReal => _ - sixR * y) h6)

/-! ## The claim -/

/-- The result buffer's last contents are what the body leaves in its block. -/
theorem finalA_out (c : Dev nD) : (win0_1.blk (0 : Fin 1)).view.read (Elt Ideal) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The block staged in is the argument's buffer. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

/-- The block written back is the result's buffer. -/
theorem final_eq (c : Dev nD) : finalA m ρ c (1 : Fin 2) = outAt m ρ c := by
  have hz : (fun a => (win0_1.index (0 : Fin 1)) a * main_v1.ty.shape.size a) = fun _ => 0 := funext fun a => by fin_cases a <;> decide
  exact (Memref.read_access_unit_zero (Elt Ideal) main_v1 hz (fun a => by fin_cases a <;> decide) _).symm.trans (finalA_out m ρ c)

/-- From the blocks of one array the kernel ends, on every device, holding the block of what the reference makes of that
    array. -/
theorem algebraic : Cert.algebraic_KernelIdeal_ReferenceIdeal := by
  intro m ρ m' ρ' _ hagree
  refine ⟨refTerm (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, (h.1 c (0 : Fin 2)).trans (finalA_in m ρ c)⟩) (run_main (F := Ideal) m ρ)
    exact (h.1 c (1 : Fin 2)).trans ((final_eq m ρ c).trans (out_eq m ρ _ (fun c => (xstg_eq m ρ c).trans (hagree c)) c))
  · exact (θ_run Cert.ReferenceIdeal.defs _ _).mono (fun _ h => h 0) (Cert.ReferenceIdeal.Value.run (F := Ideal) m' ρ')

end Kernel

end Cert.Halo

end

end
-- ==== Proof.lean ====
/-
# The certificate

The five claims about the halo exchange, from the modules that prove them: `Frames` (the three programs run) and `Value`
(the kernel's result is the block of the reference's). The two printed kernels are one text, with no operation rewritten.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- All five claims. -/
theorem claim : Cert.Claim :=
  ⟨Cert.Kernel.Gen.facts, Cert.KernelIdeal.Gen.facts, Cert.ReferenceIdeal.Gen.facts,
    Cert.Halo.frame_kernel, Cert.Halo.frame_kernelIdeal, Cert.Halo.frame_reference, trivial, Cert.Halo.algebraic⟩

end Cert.Proof

end
